-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_largest_is_a_number [hPre_largest_is_a_number : Cert.Pre_largest_is_a_number.Facts] (m : (ℓ : Loc Cert.KernelIdeal.nD Cert.KernelIdeal.τ Cert.KernelIdeal.sig) → Buf (Elt Ideal) ℓ) : Prop :=
  ∀ c : Dev Cert.KernelIdeal.nD,
    (Cert.Pre_largest_is_a_number.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_largest_is_a_number [hPre_largest_is_a_number : Cert.Pre_largest_is_a_number.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_largest_is_a_number.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_largest_is_a_number [hKernelIdeal : Cert.KernelIdeal.Facts] [hPre_largest_is_a_number : Cert.Pre_largest_is_a_number.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_largest_is_a_number m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_largest_is_a_number [hReferenceIdeal : Cert.ReferenceIdeal.Facts] [hPre_largest_is_a_number : Cert.Pre_largest_is_a_number.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_largest_is_a_number m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_largest_is_a_number [hKernelIdeal : Cert.KernelIdeal.Facts] [hReferenceIdeal : Cert.ReferenceIdeal.Facts] [hPre_largest_is_a_number : Cert.Pre_largest_is_a_number.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_largest_is_a_number m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_largest_is_a_number : Cert.Pre_largest_is_a_number.Facts),
    quiescent_Kernel (hKernel := hKernel)
    ∧ quiescent_KernelIdeal (hKernelIdeal := hKernelIdeal)
    ∧ quiescent_KernelIdeal_pre_largest_is_a_number (hKernelIdeal := hKernelIdeal) (hPre_largest_is_a_number := hPre_largest_is_a_number)
    ∧ quiescent_ReferenceIdeal (hReferenceIdeal := hReferenceIdeal)
    ∧ quiescent_ReferenceIdeal_pre_largest_is_a_number (hReferenceIdeal := hReferenceIdeal) (hPre_largest_is_a_number := hPre_largest_is_a_number)
    ∧ preserves_Kernel_KernelIdeal
    ∧ algebraic_KernelIdeal_ReferenceIdeal_pre_largest_is_a_number (hKernelIdeal := hKernelIdeal) (hReferenceIdeal := hReferenceIdeal) (hPre_largest_is_a_number := hPre_largest_is_a_number)
-- ==== Pre_largest_is_a_number.lean ====
abbrev S4096x26 : Shape := ⟨2, ![4096, 26]⟩
abbrev S26x7 : Shape := ⟨2, ![26, 7]⟩
abbrev S7x104000x16 : Shape := ⟨3, ![7, 104000, 16]⟩
abbrev S104000x128 : Shape := ⟨2, ![104000, 128]⟩
abbrev S7x16x2048x8 : Shape := ⟨4, ![7, 16, 2048, 8]⟩
abbrev S104000 : Shape := ⟨1, ![104000]⟩
abbrev S1 : Shape := ⟨1, ![1]⟩
abbrev S26x5 : Shape := ⟨2, ![26, 5]⟩
abbrev S_ : Shape := ⟨0, ![]⟩
abbrev S26 : Shape := ⟨1, ![26]⟩

class Facts : Prop where
  slices_S26x7_S26x5_0_1 : S26x7.Slices ![0, 1] S26x5
  reducesTo_S26x5_S26_d1 : S26x5.ReducesTo [1] S26
  h_S_ : 0 < S_.numel
  bcast_S_S26 : S_.BroadcastsInDim S26 (![] : Fin 0 → Fin S26.rank)
  reducesTo_S26_S_d0 : S26.ReducesTo [0] S_

variable [Facts]

def fn {F : FTy → Type} [FloatOps F] (main_arg0 : IVec S4096x26 32) (main_arg1 : FVec F S26x7 .f32) (main_arg2 : IVec S7x104000x16 32) (main_arg3 : FVec F S104000x128 .f32) (main_arg4 : FVec F S7x16x2048x8 .f32) (main_arg5 : FVec F S104000 .f32) (main_arg6 : FVec F S1 .f32) : IVec S_ 1 :=
  let main_v0 : FVec F S26x5 .f32 := (extractStridedSlice S26x5 ![0, 1] · slices_S26x7_S26x5_0_1) main_arg1
  let main_cst : FVec F S_ .f32 := constant S_ .f32 0xFF800000#32
  let main_v1 : FVec F S26 .f32 := (fun x v => Host.reduce FloatOps.maximumf x v reducesTo_S26x5_S26_d1 h_S_) main_v0 main_cst
  let main_cst_0 : FVec F S_ .f32 := constant S_ .f32 0xFF800000#32
  let main_v2 : FVec F S26 .f32 := broadcastInDim S26 ![] bcast_S_S26 main_cst_0
  let main_v3 : IVec S26 1 := cmpf .ogt main_v1 main_v2
  let main_cst_1 : FVec F S_ .f32 := constant S_ .f32 0x7F800000#32
  let main_v4 : FVec F S26 .f32 := broadcastInDim S26 ![] bcast_S_S26 main_cst_1
  let main_v5 : IVec S26 1 := cmpf .olt main_v1 main_v4
  let main_v6 : IVec S26 1 := andi main_v3 main_v5
  let main_c : IVec S_ 1 := constantI S_ 1 1#1
  let main_v7 : IVec S_ 1 := (fun x v => Host.reduce IntOp.andi x v reducesTo_S26_S_d0 h_S_) main_v6 main_c
  main_v7
-- ==== Kernel.lean ====
abbrev S4096x26 : Shape := ⟨2, ![4096, 26]⟩
abbrev S26x7 : Shape := ⟨2, ![26, 7]⟩
abbrev S7x104000x16 : Shape := ⟨3, ![7, 104000, 16]⟩
abbrev S104000x128 : Shape := ⟨2, ![104000, 128]⟩
abbrev S7x16x2048x8 : Shape := ⟨4, ![7, 16, 2048, 8]⟩
abbrev S104000 : Shape := ⟨1, ![104000]⟩
abbrev S1 : Shape := ⟨1, ![1]⟩
abbrev S26 : Shape := ⟨1, ![26]⟩
abbrev S_ : Shape := ⟨0, ![]⟩
abbrev S1x26 : Shape := ⟨2, ![1, 26]⟩
abbrev S16 : Shape := ⟨1, ![16]⟩
abbrev S1x1x16 : Shape := ⟨3, ![1, 1, 16]⟩
abbrev S1x104000x16 : Shape := ⟨3, ![1, 104000, 16]⟩
abbrev S104000x16 : Shape := ⟨2, ![104000, 16]⟩
abbrev S4096x26x1 : Shape := ⟨3, ![4096, 26, 1]⟩
abbrev S1x1x1 : Shape := ⟨3, ![1, 1, 1]⟩
abbrev S4096x26x16 : Shape := ⟨3, ![4096, 26, 16]⟩
abbrev S1x16x2048x8 : Shape := ⟨4, ![1, 16, 2048, 8]⟩
abbrev S16x2048x8 : Shape := ⟨3, ![16, 2048, 8]⟩
abbrev S4096x26x16x1 : Shape := ⟨4, ![4096, 26, 16, 1]⟩
abbrev S4096x26x16x2 : Shape := ⟨4, ![4096, 26, 16, 2]⟩
abbrev S4096x26x16x8 : Shape := ⟨4, ![4096, 26, 16, 8]⟩
abbrev S4096x26x128 : Shape := ⟨3, ![4096, 26, 128]⟩
abbrev S1x1 : Shape := ⟨2, ![1, 1]⟩
abbrev S4096x1 : Shape := ⟨2, ![4096, 1]⟩
abbrev S4096 : Shape := ⟨1, ![4096]⟩
abbrev S128x26 : Shape := ⟨2, ![128, 26]⟩
abbrev S128x26x128 : Shape := ⟨3, ![128, 26, 128]⟩
abbrev S128x1 : Shape := ⟨2, ![128, 1]⟩
abbrev S26x1 : Shape := ⟨2, ![26, 1]⟩
abbrev S1x26x1 : Shape := ⟨3, ![1, 26, 1]⟩
abbrev S128x128 : Shape := ⟨2, ![128, 128]⟩
abbrev S128 : Shape := ⟨1, ![128]⟩

abbrev nBuf : Space → Nat
  | .hbm => 386
  | .vmem => 16
  | .smem => 0
  | _ => 0

abbrev hbmTy0_0 (i : Nat) : BufTy := match i % 128 with
  | 0 => ⟨S4096x26, .i32⟩
  | 1 => ⟨S26x7, .f32⟩
  | 2 => ⟨S7x104000x16, .i32⟩
  | 3 => ⟨S104000x128, .f32⟩
  | 4 => ⟨S7x16x2048x8, .f32⟩
  | 5 => ⟨S104000, .f32⟩
  | 6 => ⟨S1, .f32⟩
  | 7 => ⟨S26, .i32⟩
  | 8 => ⟨S_, .i32⟩
  | 9 => ⟨S26, .i32⟩
  | 10 => ⟨S26, .i32⟩
  | 11 => ⟨S1x26, .i32⟩
  | 12 => ⟨S4096x26, .i32⟩
  | 13 => ⟨S4096x26, .i32⟩
  | 14 => ⟨S16, .i32⟩
  | 15 => ⟨S1x1x16, .i32⟩
  | 16 => ⟨S1x104000x16, .i32⟩
  | 17 => ⟨S104000x16, .i32⟩
  | 18 => ⟨S_, .i32⟩
  | 19 => ⟨S4096x26, .i32⟩
  | 20 => ⟨S4096x26, .i1⟩
  | 21 => ⟨S_, .i32⟩
  | 22 => ⟨S4096x26, .i32⟩
  | 23 => ⟨S4096x26, .i32⟩
  | 24 => ⟨S4096x26, .i32⟩
  | 25 => ⟨S4096x26x1, .i32⟩
  | 26 => ⟨S1, .i32⟩
  | 27 => ⟨S_, .i32⟩
  | 28 => ⟨S4096x26x1, .i32⟩
  | 29 => ⟨S4096x26x1, .i1⟩
  | 30 => ⟨S1x1x1, .i32⟩
  | 31 => ⟨S4096x26x1, .i32⟩
  | 32 => ⟨S4096x26x1, .i1⟩
  | 33 => ⟨S4096x26x1, .i1⟩
  | 34 => ⟨S_, .i1⟩
  | 35 => ⟨S4096x26, .i1⟩
  | 36 => ⟨S4096x26x16, .i32⟩
  | 37 => ⟨S4096x26x16, .i1⟩
  | 38 => ⟨S_, .i32⟩
  | 39 => ⟨S4096x26x16, .i32⟩
  | 40 => ⟨S4096x26x16, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S4096x26x16, .i32⟩
  | 48 => ⟨S4096x26x16, .i32⟩
  | 49 => ⟨S_, .i32⟩
  | 50 => ⟨S4096x26x16, .i32⟩
  | 51 => ⟨S4096x26x16, .i1⟩
  | 52 => ⟨S_, .i32⟩
  | 53 => ⟨S4096x26x16, .i32⟩
  | 54 => ⟨S4096x26x16, .i1⟩
  | 55 => ⟨S_, .i32⟩
  | 56 => ⟨S_, .i1⟩
  | 57 => ⟨S4096x26x16, .i1⟩
  | 58 => ⟨S4096x26x16, .i1⟩
  | 59 => ⟨S4096x26x16, .i1⟩
  | 60 => ⟨S4096x26x16, .i32⟩
  | 61 => ⟨S4096x26x16, .i32⟩
  | 62 => ⟨S4096x26x16, .i32⟩
  | 63 => ⟨S1x16x2048x8, .f32⟩
  | 64 => ⟨S16x2048x8, .f32⟩
  | 65 => ⟨S_, .i32⟩
  | 66 => ⟨S1x1x16, .i32⟩
  | 67 => ⟨S1x1x16, .i1⟩
  | 68 => ⟨S_, .i32⟩
  | 69 => ⟨S1x1x16, .i32⟩
  | 70 => ⟨S1x1x16, .i32⟩
  | 71 => ⟨S1x1x16, .i32⟩
  | 72 => ⟨S_, .i32⟩
  | 73 => ⟨S4096x26x16, .i32⟩
  | 74 => ⟨S4096x26x16, .i1⟩
  | 75 => ⟨S_, .i32⟩
  | 76 => ⟨S4096x26x16, .i32⟩
  | 77 => ⟨S4096x26x16, .i32⟩
  | 78 => ⟨S4096x26x16, .i32⟩
  | 79 => ⟨S4096x26x16, .i32⟩
  | 80 => ⟨S4096x26x16x1, .i32⟩
  | 81 => ⟨S4096x26x16x1, .i32⟩
  | 82 => ⟨S4096x26x16x2, .i32⟩
  | 83 => ⟨S4096x26x16x8, .f32⟩
  | 84 => ⟨S4096x26x128, .f32⟩
  | 85 => ⟨S1x104000x16, .i32⟩
  | 86 => ⟨S104000x16, .i32⟩
  | 87 => ⟨S_, .i32⟩
  | 88 => ⟨S4096x26, .i32⟩
  | 89 => ⟨S4096x26, .i1⟩
  | 90 => ⟨S_, .i32⟩
  | 91 => ⟨S4096x26, .i32⟩
  | 92 => ⟨S4096x26, .i32⟩
  | 93 => ⟨S4096x26, .i32⟩
  | 94 => ⟨S4096x26x1, .i32⟩
  | 95 => ⟨S1, .i32⟩
  | 96 => ⟨S_, .i32⟩
  | 97 => ⟨S4096x26x1, .i32⟩
  | 98 => ⟨S4096x26x1, .i1⟩
  | 99 => ⟨S1x1x1, .i32⟩
  | 100 => ⟨S4096x26x1, .i32⟩
  | 101 => ⟨S4096x26x1, .i1⟩
  | 102 => ⟨S4096x26x1, .i1⟩
  | 103 => ⟨S_, .i1⟩
  | 104 => ⟨S4096x26, .i1⟩
  | 105 => ⟨S4096x26x16, .i32⟩
  | 106 => ⟨S4096x26x16, .i1⟩
  | 107 => ⟨S_, .i32⟩
  | 108 => ⟨S4096x26x16, .i32⟩
  | 109 => ⟨S4096x26x16, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S4096x26x16, .i32⟩
  | 117 => ⟨S4096x26x16, .i32⟩
  | 118 => ⟨S_, .i32⟩
  | 119 => ⟨S4096x26x16, .i32⟩
  | 120 => ⟨S4096x26x16, .i1⟩
  | 121 => ⟨S_, .i32⟩
  | 122 => ⟨S4096x26x16, .i32⟩
  | 123 => ⟨S4096x26x16, .i1⟩
  | 124 => ⟨S_, .i32⟩
  | 125 => ⟨S_, .i1⟩
  | 126 => ⟨S4096x26x16, .i1⟩
  | 127 => ⟨S4096x26x16, .i1⟩
  | _ => ⟨S4096x26, .i32⟩

abbrev hbmTy0_1 (i : Nat) : BufTy := match i % 128 with
  | 0 => ⟨S4096x26x16, .i1⟩
  | 1 => ⟨S4096x26x16, .i32⟩
  | 2 => ⟨S4096x26x16, .i32⟩
  | 3 => ⟨S4096x26x16, .i32⟩
  | 4 => ⟨S1x16x2048x8, .f32⟩
  | 5 => ⟨S16x2048x8, .f32⟩
  | 6 => ⟨S_, .i32⟩
  | 7 => ⟨S1x1x16, .i32⟩
  | 8 => ⟨S1x1x16, .i1⟩
  | 9 => ⟨S_, .i32⟩
  | 10 => ⟨S1x1x16, .i32⟩
  | 11 => ⟨S1x1x16, .i32⟩
  | 12 => ⟨S1x1x16, .i32⟩
  | 13 => ⟨S_, .i32⟩
  | 14 => ⟨S4096x26x16, .i32⟩
  | 15 => ⟨S4096x26x16, .i1⟩
  | 16 => ⟨S_, .i32⟩
  | 17 => ⟨S4096x26x16, .i32⟩
  | 18 => ⟨S4096x26x16, .i32⟩
  | 19 => ⟨S4096x26x16, .i32⟩
  | 20 => ⟨S4096x26x16, .i32⟩
  | 21 => ⟨S4096x26x16x1, .i32⟩
  | 22 => ⟨S4096x26x16x1, .i32⟩
  | 23 => ⟨S4096x26x16x2, .i32⟩
  | 24 => ⟨S4096x26x16x8, .f32⟩
  | 25 => ⟨S4096x26x128, .f32⟩
  | 26 => ⟨S1x104000x16, .i32⟩
  | 27 => ⟨S104000x16, .i32⟩
  | 28 => ⟨S_, .i32⟩
  | 29 => ⟨S4096x26, .i32⟩
  | 30 => ⟨S4096x26, .i1⟩
  | 31 => ⟨S_, .i32⟩
  | 32 => ⟨S4096x26, .i32⟩
  | 33 => ⟨S4096x26, .i32⟩
  | 34 => ⟨S4096x26, .i32⟩
  | 35 => ⟨S4096x26x1, .i32⟩
  | 36 => ⟨S1, .i32⟩
  | 37 => ⟨S_, .i32⟩
  | 38 => ⟨S4096x26x1, .i32⟩
  | 39 => ⟨S4096x26x1, .i1⟩
  | 40 => ⟨S1x1x1, .i32⟩
  | 41 => ⟨S4096x26x1, .i32⟩
  | 42 => ⟨S4096x26x1, .i1⟩
  | 43 => ⟨S4096x26x1, .i1⟩
  | 44 => ⟨S_, .i1⟩
  | 45 => ⟨S4096x26, .i1⟩
  | 46 => ⟨S4096x26x16, .i32⟩
  | 47 => ⟨S4096x26x16, .i1⟩
  | 48 => ⟨S_, .i32⟩
  | 49 => ⟨S4096x26x16, .i32⟩
  | 50 => ⟨S4096x26x16, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S4096x26x16, .i32⟩
  | 58 => ⟨S4096x26x16, .i32⟩
  | 59 => ⟨S_, .i32⟩
  | 60 => ⟨S4096x26x16, .i32⟩
  | 61 => ⟨S4096x26x16, .i1⟩
  | 62 => ⟨S_, .i32⟩
  | 63 => ⟨S4096x26x16, .i32⟩
  | 64 => ⟨S4096x26x16, .i1⟩
  | 65 => ⟨S_, .i32⟩
  | 66 => ⟨S_, .i1⟩
  | 67 => ⟨S4096x26x16, .i1⟩
  | 68 => ⟨S4096x26x16, .i1⟩
  | 69 => ⟨S4096x26x16, .i1⟩
  | 70 => ⟨S4096x26x16, .i32⟩
  | 71 => ⟨S4096x26x16, .i32⟩
  | 72 => ⟨S4096x26x16, .i32⟩
  | 73 => ⟨S1x16x2048x8, .f32⟩
  | 74 => ⟨S16x2048x8, .f32⟩
  | 75 => ⟨S_, .i32⟩
  | 76 => ⟨S1x1x16, .i32⟩
  | 77 => ⟨S1x1x16, .i1⟩
  | 78 => ⟨S_, .i32⟩
  | 79 => ⟨S1x1x16, .i32⟩
  | 80 => ⟨S1x1x16, .i32⟩
  | 81 => ⟨S1x1x16, .i32⟩
  | 82 => ⟨S_, .i32⟩
  | 83 => ⟨S4096x26x16, .i32⟩
  | 84 => ⟨S4096x26x16, .i1⟩
  | 85 => ⟨S_, .i32⟩
  | 86 => ⟨S4096x26x16, .i32⟩
  | 87 => ⟨S4096x26x16, .i32⟩
  | 88 => ⟨S4096x26x16, .i32⟩
  | 89 => ⟨S4096x26x16, .i32⟩
  | 90 => ⟨S4096x26x16x1, .i32⟩
  | 91 => ⟨S4096x26x16x1, .i32⟩
  | 92 => ⟨S4096x26x16x2, .i32⟩
  | 93 => ⟨S4096x26x16x8, .f32⟩
  | 94 => ⟨S4096x26x128, .f32⟩
  | 95 => ⟨S1x104000x16, .i32⟩
  | 96 => ⟨S104000x16, .i32⟩
  | 97 => ⟨S_, .i32⟩
  | 98 => ⟨S4096x26, .i32⟩
  | 99 => ⟨S4096x26, .i1⟩
  | 100 => ⟨S_, .i32⟩
  | 101 => ⟨S4096x26, .i32⟩
  | 102 => ⟨S4096x26, .i32⟩
  | 103 => ⟨S4096x26, .i32⟩
  | 104 => ⟨S4096x26x1, .i32⟩
  | 105 => ⟨S1, .i32⟩
  | 106 => ⟨S_, .i32⟩
  | 107 => ⟨S4096x26x1, .i32⟩
  | 108 => ⟨S4096x26x1, .i1⟩
  | 109 => ⟨S1x1x1, .i32⟩
  | 110 => ⟨S4096x26x1, .i32⟩
  | 111 => ⟨S4096x26x1, .i1⟩
  | 112 => ⟨S4096x26x1, .i1⟩
  | 113 => ⟨S_, .i1⟩
  | 114 => ⟨S4096x26, .i1⟩
  | 115 => ⟨S4096x26x16, .i32⟩
  | 116 => ⟨S4096x26x16, .i1⟩
  | 117 => ⟨S_, .i32⟩
  | 118 => ⟨S4096x26x16, .i32⟩
  | 119 => ⟨S4096x26x16, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S4096x26x16, .i32⟩
  | 127 => ⟨S4096x26x16, .i32⟩
  | _ => ⟨S4096x26, .i32⟩

abbrev hbmTy0_2 (i : Nat) : BufTy := match i % 128 with
  | 0 => ⟨S_, .i32⟩
  | 1 => ⟨S4096x26x16, .i32⟩
  | 2 => ⟨S4096x26x16, .i1⟩
  | 3 => ⟨S_, .i32⟩
  | 4 => ⟨S4096x26x16, .i32⟩
  | 5 => ⟨S4096x26x16, .i1⟩
  | 6 => ⟨S_, .i32⟩
  | 7 => ⟨S_, .i1⟩
  | 8 => ⟨S4096x26x16, .i1⟩
  | 9 => ⟨S4096x26x16, .i1⟩
  | 10 => ⟨S4096x26x16, .i1⟩
  | 11 => ⟨S4096x26x16, .i32⟩
  | 12 => ⟨S4096x26x16, .i32⟩
  | 13 => ⟨S4096x26x16, .i32⟩
  | 14 => ⟨S1x16x2048x8, .f32⟩
  | 15 => ⟨S16x2048x8, .f32⟩
  | 16 => ⟨S_, .i32⟩
  | 17 => ⟨S1x1x16, .i32⟩
  | 18 => ⟨S1x1x16, .i1⟩
  | 19 => ⟨S_, .i32⟩
  | 20 => ⟨S1x1x16, .i32⟩
  | 21 => ⟨S1x1x16, .i32⟩
  | 22 => ⟨S1x1x16, .i32⟩
  | 23 => ⟨S_, .i32⟩
  | 24 => ⟨S4096x26x16, .i32⟩
  | 25 => ⟨S4096x26x16, .i1⟩
  | 26 => ⟨S_, .i32⟩
  | 27 => ⟨S4096x26x16, .i32⟩
  | 28 => ⟨S4096x26x16, .i32⟩
  | 29 => ⟨S4096x26x16, .i32⟩
  | 30 => ⟨S4096x26x16, .i32⟩
  | 31 => ⟨S4096x26x16x1, .i32⟩
  | 32 => ⟨S4096x26x16x1, .i32⟩
  | 33 => ⟨S4096x26x16x2, .i32⟩
  | 34 => ⟨S4096x26x16x8, .f32⟩
  | 35 => ⟨S4096x26x128, .f32⟩
  | 36 => ⟨S1x104000x16, .i32⟩
  | 37 => ⟨S104000x16, .i32⟩
  | 38 => ⟨S_, .i32⟩
  | 39 => ⟨S4096x26, .i32⟩
  | 40 => ⟨S4096x26, .i1⟩
  | 41 => ⟨S_, .i32⟩
  | 42 => ⟨S4096x26, .i32⟩
  | 43 => ⟨S4096x26, .i32⟩
  | 44 => ⟨S4096x26, .i32⟩
  | 45 => ⟨S4096x26x1, .i32⟩
  | 46 => ⟨S1, .i32⟩
  | 47 => ⟨S_, .i32⟩
  | 48 => ⟨S4096x26x1, .i32⟩
  | 49 => ⟨S4096x26x1, .i1⟩
  | 50 => ⟨S1x1x1, .i32⟩
  | 51 => ⟨S4096x26x1, .i32⟩
  | 52 => ⟨S4096x26x1, .i1⟩
  | 53 => ⟨S4096x26x1, .i1⟩
  | 54 => ⟨S_, .i1⟩
  | 55 => ⟨S4096x26, .i1⟩
  | 56 => ⟨S4096x26x16, .i32⟩
  | 57 => ⟨S4096x26x16, .i1⟩
  | 58 => ⟨S_, .i32⟩
  | 59 => ⟨S4096x26x16, .i32⟩
  | 60 => ⟨S4096x26x16, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S4096x26x16, .i32⟩
  | 68 => ⟨S4096x26x16, .i32⟩
  | 69 => ⟨S_, .i32⟩
  | 70 => ⟨S4096x26x16, .i32⟩
  | 71 => ⟨S4096x26x16, .i1⟩
  | 72 => ⟨S_, .i32⟩
  | 73 => ⟨S4096x26x16, .i32⟩
  | 74 => ⟨S4096x26x16, .i1⟩
  | 75 => ⟨S_, .i32⟩
  | 76 => ⟨S_, .i1⟩
  | 77 => ⟨S4096x26x16, .i1⟩
  | 78 => ⟨S4096x26x16, .i1⟩
  | 79 => ⟨S4096x26x16, .i1⟩
  | 80 => ⟨S4096x26x16, .i32⟩
  | 81 => ⟨S4096x26x16, .i32⟩
  | 82 => ⟨S4096x26x16, .i32⟩
  | 83 => ⟨S1x16x2048x8, .f32⟩
  | 84 => ⟨S16x2048x8, .f32⟩
  | 85 => ⟨S_, .i32⟩
  | 86 => ⟨S1x1x16, .i32⟩
  | 87 => ⟨S1x1x16, .i1⟩
  | 88 => ⟨S_, .i32⟩
  | 89 => ⟨S1x1x16, .i32⟩
  | 90 => ⟨S1x1x16, .i32⟩
  | 91 => ⟨S1x1x16, .i32⟩
  | 92 => ⟨S_, .i32⟩
  | 93 => ⟨S4096x26x16, .i32⟩
  | 94 => ⟨S4096x26x16, .i1⟩
  | 95 => ⟨S_, .i32⟩
  | 96 => ⟨S4096x26x16, .i32⟩
  | 97 => ⟨S4096x26x16, .i32⟩
  | 98 => ⟨S4096x26x16, .i32⟩
  | 99 => ⟨S4096x26x16, .i32⟩
  | 100 => ⟨S4096x26x16x1, .i32⟩
  | 101 => ⟨S4096x26x16x1, .i32⟩
  | 102 => ⟨S4096x26x16x2, .i32⟩
  | 103 => ⟨S4096x26x16x8, .f32⟩
  | 104 => ⟨S4096x26x128, .f32⟩
  | 105 => ⟨S_, .i32⟩
  | 106 => ⟨S4096x26, .i32⟩
  | 107 => ⟨S4096x26, .i1⟩
  | 108 => ⟨S_, .i32⟩
  | 109 => ⟨S4096x26, .i32⟩
  | 110 => ⟨S4096x26, .i32⟩
  | 111 => ⟨S4096x26, .i32⟩
  | 112 => ⟨S4096x26x1, .i32⟩
  | 113 => ⟨S1, .i32⟩
  | 114 => ⟨S_, .i32⟩
  | 115 => ⟨S4096x26x1, .i32⟩
  | 116 => ⟨S4096x26x1, .i1⟩
  | 117 => ⟨S1x1x1, .i32⟩
  | 118 => ⟨S4096x26x1, .i32⟩
  | 119 => ⟨S4096x26x1, .i1⟩
  | 120 => ⟨S4096x26x1, .i1⟩
  | 121 => ⟨S_, .i1⟩
  | 122 => ⟨S4096x26, .i1⟩
  | 123 => ⟨S4096x26, .f32⟩
  | 124 => ⟨S_, .f32⟩
  | 125 => ⟨S4096x26, .f32⟩
  | 126 => ⟨S4096x26, .f32⟩
  | 127 => ⟨S1x1, .f32⟩
  | _ => ⟨S4096x26, .i32⟩

abbrev hbmTy0_3 (i : Nat) : BufTy := match i % 128 with
  | 0 => ⟨S4096x1, .f32⟩
  | 1 => ⟨S4096, .f32⟩
  | _ => ⟨S4096x26, .i32⟩

abbrev hbmTy (i : Nat) : BufTy := match i / 128 with
  | 0 => hbmTy0_0 i
  | 1 => hbmTy0_1 i
  | 2 => hbmTy0_2 i
  | 3 => hbmTy0_3 i
  | _ => ⟨S4096x26, .i32⟩

abbrev bufTy : (tb : Table) → Fin (tcTables nBuf tb) → BufTy
  | .hbm, ⟨i, _⟩ => hbmTy i
  | .local _ .vmem, ⟨0, _⟩ => ⟨S26x7, .f32⟩
  | .local _ .vmem, ⟨1, _⟩ => ⟨S128x26, .f32⟩
  | .local _ .vmem, ⟨2, _⟩ => ⟨S128x26, .f32⟩
  | .local _ .vmem, ⟨3, _⟩ => ⟨S1x1, .f32⟩
  | .local _ .vmem, ⟨4, _⟩ => ⟨S128x26x128, .f32⟩
  | .local _ .vmem, ⟨5, _⟩ => ⟨S128x26x128, .f32⟩
  | .local _ .vmem, ⟨6, _⟩ => ⟨S128x26x128, .f32⟩
  | .local _ .vmem, ⟨7, _⟩ => ⟨S128x26x128, .f32⟩
  | .local _ .vmem, ⟨8, _⟩ => ⟨S128x26x128, .f32⟩
  | .local _ .vmem, ⟨9, _⟩ => ⟨S128x26x128, .f32⟩
  | .local _ .vmem, ⟨10, _⟩ => ⟨S128x26x128, .f32⟩
  | .local _ .vmem, ⟨11, _⟩ => ⟨S128x26x128, .f32⟩
  | .local _ .vmem, ⟨12, _⟩ => ⟨S128x26x128, .f32⟩
  | .local _ .vmem, ⟨13, _⟩ => ⟨S128x26x128, .f32⟩
  | .local _ .vmem, ⟨14, _⟩ => ⟨S128x1, .f32⟩
  | .local _ .vmem, ⟨15, _⟩ => ⟨S128x1, .f32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_call0_c : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_c_0 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_c_1 : Ref sig .tc := ⟨.hbm, 26, rfl⟩
abbrev main_call0_call0_c_2 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_call0_c_3 : Ref sig .tc := ⟨.hbm, 34, rfl⟩
abbrev main_call0_call0_v12 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_c_4 : Ref sig .tc := ⟨.hbm, 38, rfl⟩
abbrev main_call0_call0_v15 : Ref sig .tc := ⟨.hbm, 39, rfl⟩
abbrev main_call0_v10 : Ref sig .tc := ⟨.hbm, 40, rfl⟩
abbrev main_call0_c_0 : Ref sig .tc := ⟨.hbm, 41, rfl⟩
abbrev main_call0_call1_v0 : Ref sig .tc := ⟨.hbm, 42, rfl⟩
abbrev main_call0_call1_c : Ref sig .tc := ⟨.hbm, 43, rfl⟩
abbrev main_call0_call1_v1 : Ref sig .tc := ⟨.hbm, 44, rfl⟩
abbrev main_call0_call1_c_0 : Ref sig .tc := ⟨.hbm, 45, rfl⟩
abbrev main_call0_call1_v2 : Ref sig .tc := ⟨.hbm, 46, rfl⟩
abbrev main_call0_call1_v3 : Ref sig .tc := ⟨.hbm, 47, rfl⟩
abbrev main_call0_call1_v4 : Ref sig .tc := ⟨.hbm, 48, rfl⟩
abbrev main_call0_call1_c_1 : Ref sig .tc := ⟨.hbm, 49, rfl⟩
abbrev main_call0_call1_v5 : Ref sig .tc := ⟨.hbm, 50, rfl⟩
abbrev main_call0_call1_v6 : Ref sig .tc := ⟨.hbm, 51, rfl⟩
abbrev main_call0_call1_c_2 : Ref sig .tc := ⟨.hbm, 52, rfl⟩
abbrev main_call0_call1_v7 : Ref sig .tc := ⟨.hbm, 53, rfl⟩
abbrev main_call0_call1_v8 : Ref sig .tc := ⟨.hbm, 54, rfl⟩
abbrev main_call0_call1_c_3 : Ref sig .tc := ⟨.hbm, 55, rfl⟩
abbrev main_call0_call1_v9 : Ref sig .tc := ⟨.hbm, 56, rfl⟩
abbrev main_call0_call1_v10 : Ref sig .tc := ⟨.hbm, 57, rfl⟩
abbrev main_call0_call1_v11 : Ref sig .tc := ⟨.hbm, 58, rfl⟩
abbrev main_call0_call1_v12 : Ref sig .tc := ⟨.hbm, 59, rfl⟩
abbrev main_call0_call1_v13 : Ref sig .tc := ⟨.hbm, 60, rfl⟩
abbrev main_call0_call1_v14 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_c_1 : Ref sig .tc := ⟨.hbm, 65, rfl⟩
abbrev main_call0_v14 : Ref sig .tc := ⟨.hbm, 66, rfl⟩
abbrev main_call0_v15 : Ref sig .tc := ⟨.hbm, 67, rfl⟩
abbrev main_call0_c_2 : Ref sig .tc := ⟨.hbm, 68, rfl⟩
abbrev main_call0_v16 : Ref sig .tc := ⟨.hbm, 69, rfl⟩
abbrev main_call0_v17 : Ref sig .tc := ⟨.hbm, 70, rfl⟩
abbrev main_call0_v18 : Ref sig .tc := ⟨.hbm, 71, rfl⟩
abbrev main_call0_c_3 : Ref sig .tc := ⟨.hbm, 72, rfl⟩
abbrev main_call0_v19 : Ref sig .tc := ⟨.hbm, 73, rfl⟩
abbrev main_call0_v20 : Ref sig .tc := ⟨.hbm, 74, rfl⟩
abbrev main_call0_c_4 : Ref sig .tc := ⟨.hbm, 75, rfl⟩
abbrev main_call0_v21 : Ref sig .tc := ⟨.hbm, 76, rfl⟩
abbrev main_call0_v22 : Ref sig .tc := ⟨.hbm, 77, rfl⟩
abbrev main_call0_v23 : Ref sig .tc := ⟨.hbm, 78, rfl⟩
abbrev main_call0_v24 : Ref sig .tc := ⟨.hbm, 79, rfl⟩
abbrev main_call0_v25 : Ref sig .tc := ⟨.hbm, 80, rfl⟩
abbrev main_call0_v26 : Ref sig .tc := ⟨.hbm, 81, rfl⟩
abbrev main_call0_v27 : Ref sig .tc := ⟨.hbm, 82, rfl⟩
abbrev main_call0_v28 : Ref sig .tc := ⟨.hbm, 83, rfl⟩
abbrev main_call0_v29 : Ref sig .tc := ⟨.hbm, 84, rfl⟩
abbrev main_call0_v30 : Ref sig .tc := ⟨.hbm, 85, rfl⟩
abbrev main_call0_v31 : Ref sig .tc := ⟨.hbm, 86, rfl⟩
abbrev main_call0_call2_c : Ref sig .tc := ⟨.hbm, 87, rfl⟩
abbrev main_call0_call2_v0 : Ref sig .tc := ⟨.hbm, 88, rfl⟩
abbrev main_call0_call2_v1 : Ref sig .tc := ⟨.hbm, 89, rfl⟩
abbrev main_call0_call2_c_0 : Ref sig .tc := ⟨.hbm, 90, rfl⟩
abbrev main_call0_call2_v2 : Ref sig .tc := ⟨.hbm, 91, rfl⟩
abbrev main_call0_call2_v3 : Ref sig .tc := ⟨.hbm, 92, rfl⟩
abbrev main_call0_call2_v4 : Ref sig .tc := ⟨.hbm, 93, rfl⟩
abbrev main_call0_call2_v5 : Ref sig .tc := ⟨.hbm, 94, rfl⟩
abbrev main_call0_call2_c_1 : Ref sig .tc := ⟨.hbm, 95, rfl⟩
abbrev main_call0_call2_c_2 : Ref sig .tc := ⟨.hbm, 96, rfl⟩
abbrev main_call0_call2_v6 : Ref sig .tc := ⟨.hbm, 97, rfl⟩
abbrev main_call0_call2_v7 : Ref sig .tc := ⟨.hbm, 98, rfl⟩
abbrev main_call0_call2_v8 : Ref sig .tc := ⟨.hbm, 99, rfl⟩
abbrev main_call0_call2_v9 : Ref sig .tc := ⟨.hbm, 100, rfl⟩
abbrev main_call0_call2_v10 : Ref sig .tc := ⟨.hbm, 101, rfl⟩
abbrev main_call0_call2_v11 : Ref sig .tc := ⟨.hbm, 102, rfl⟩
abbrev main_call0_call2_c_3 : Ref sig .tc := ⟨.hbm, 103, rfl⟩
abbrev main_call0_call2_v12 : Ref sig .tc := ⟨.hbm, 104, rfl⟩
abbrev main_call0_call2_v13 : Ref sig .tc := ⟨.hbm, 105, rfl⟩
abbrev main_call0_call2_v14 : Ref sig .tc := ⟨.hbm, 106, rfl⟩
abbrev main_call0_call2_c_4 : Ref sig .tc := ⟨.hbm, 107, rfl⟩
abbrev main_call0_call2_v15 : Ref sig .tc := ⟨.hbm, 108, rfl⟩
abbrev main_call0_v32 : Ref sig .tc := ⟨.hbm, 109, rfl⟩
abbrev main_call0_c_5 : Ref sig .tc := ⟨.hbm, 110, rfl⟩
abbrev main_call0_call3_v0 : Ref sig .tc := ⟨.hbm, 111, rfl⟩
abbrev main_call0_call3_c : Ref sig .tc := ⟨.hbm, 112, rfl⟩
abbrev main_call0_call3_v1 : Ref sig .tc := ⟨.hbm, 113, rfl⟩
abbrev main_call0_call3_c_0 : Ref sig .tc := ⟨.hbm, 114, rfl⟩
abbrev main_call0_call3_v2 : Ref sig .tc := ⟨.hbm, 115, rfl⟩
abbrev main_call0_call3_v3 : Ref sig .tc := ⟨.hbm, 116, rfl⟩
abbrev main_call0_call3_v4 : Ref sig .tc := ⟨.hbm, 117, rfl⟩
abbrev main_call0_call3_c_1 : Ref sig .tc := ⟨.hbm, 118, rfl⟩
abbrev main_call0_call3_v5 : Ref sig .tc := ⟨.hbm, 119, rfl⟩
abbrev main_call0_call3_v6 : Ref sig .tc := ⟨.hbm, 120, rfl⟩
abbrev main_call0_call3_c_2 : Ref sig .tc := ⟨.hbm, 121, rfl⟩
abbrev main_call0_call3_v7 : Ref sig .tc := ⟨.hbm, 122, rfl⟩
abbrev main_call0_call3_v8 : Ref sig .tc := ⟨.hbm, 123, rfl⟩
abbrev main_call0_call3_c_3 : Ref sig .tc := ⟨.hbm, 124, rfl⟩
abbrev main_call0_call3_v9 : Ref sig .tc := ⟨.hbm, 125, rfl⟩
abbrev main_call0_call3_v10 : Ref sig .tc := ⟨.hbm, 126, rfl⟩
abbrev main_call0_call3_v11 : Ref sig .tc := ⟨.hbm, 127, rfl⟩
abbrev main_call0_call3_v12 : Ref sig .tc := ⟨.hbm, 128, rfl⟩
abbrev main_call0_call3_v13 : Ref sig .tc := ⟨.hbm, 129, rfl⟩
abbrev main_call0_call3_v14 : Ref sig .tc := ⟨.hbm, 130, rfl⟩
abbrev main_call0_v33 : Ref sig .tc := ⟨.hbm, 131, rfl⟩
abbrev main_call0_v34 : Ref sig .tc := ⟨.hbm, 132, rfl⟩
abbrev main_call0_v35 : Ref sig .tc := ⟨.hbm, 133, rfl⟩
abbrev main_call0_c_6 : Ref sig .tc := ⟨.hbm, 134, rfl⟩
abbrev main_call0_v36 : Ref sig .tc := ⟨.hbm, 135, rfl⟩
abbrev main_call0_v37 : Ref sig .tc := ⟨.hbm, 136, rfl⟩
abbrev main_call0_c_7 : Ref sig .tc := ⟨.hbm, 137, rfl⟩
abbrev main_call0_v38 : Ref sig .tc := ⟨.hbm, 138, rfl⟩
abbrev main_call0_v39 : Ref sig .tc := ⟨.hbm, 139, rfl⟩
abbrev main_call0_v40 : Ref sig .tc := ⟨.hbm, 140, rfl⟩
abbrev main_call0_c_8 : Ref sig .tc := ⟨.hbm, 141, rfl⟩
abbrev main_call0_v41 : Ref sig .tc := ⟨.hbm, 142, rfl⟩
abbrev main_call0_v42 : Ref sig .tc := ⟨.hbm, 143, rfl⟩
abbrev main_call0_c_9 : Ref sig .tc := ⟨.hbm, 144, rfl⟩
abbrev main_call0_v43 : Ref sig .tc := ⟨.hbm, 145, rfl⟩
abbrev main_call0_v44 : Ref sig .tc := ⟨.hbm, 146, rfl⟩
abbrev main_call0_v45 : Ref sig .tc := ⟨.hbm, 147, rfl⟩
abbrev main_call0_v46 : Ref sig .tc := ⟨.hbm, 148, rfl⟩
abbrev main_call0_v47 : Ref sig .tc := ⟨.hbm, 149, rfl⟩
abbrev main_call0_v48 : Ref sig .tc := ⟨.hbm, 150, rfl⟩
abbrev main_call0_v49 : Ref sig .tc := ⟨.hbm, 151, rfl⟩
abbrev main_call0_v50 : Ref sig .tc := ⟨.hbm, 152, rfl⟩
abbrev main_call0_v51 : Ref sig .tc := ⟨.hbm, 153, rfl⟩
abbrev main_call0_v52 : Ref sig .tc := ⟨.hbm, 154, rfl⟩
abbrev main_call0_v53 : Ref sig .tc := ⟨.hbm, 155, rfl⟩
abbrev main_call0_call4_c : Ref sig .tc := ⟨.hbm, 156, rfl⟩
abbrev main_call0_call4_v0 : Ref sig .tc := ⟨.hbm, 157, rfl⟩
abbrev main_call0_call4_v1 : Ref sig .tc := ⟨.hbm, 158, rfl⟩
abbrev main_call0_call4_c_0 : Ref sig .tc := ⟨.hbm, 159, rfl⟩
abbrev main_call0_call4_v2 : Ref sig .tc := ⟨.hbm, 160, rfl⟩
abbrev main_call0_call4_v3 : Ref sig .tc := ⟨.hbm, 161, rfl⟩
abbrev main_call0_call4_v4 : Ref sig .tc := ⟨.hbm, 162, rfl⟩
abbrev main_call0_call4_v5 : Ref sig .tc := ⟨.hbm, 163, rfl⟩
abbrev main_call0_call4_c_1 : Ref sig .tc := ⟨.hbm, 164, rfl⟩
abbrev main_call0_call4_c_2 : Ref sig .tc := ⟨.hbm, 165, rfl⟩
abbrev main_call0_call4_v6 : Ref sig .tc := ⟨.hbm, 166, rfl⟩
abbrev main_call0_call4_v7 : Ref sig .tc := ⟨.hbm, 167, rfl⟩
abbrev main_call0_call4_v8 : Ref sig .tc := ⟨.hbm, 168, rfl⟩
abbrev main_call0_call4_v9 : Ref sig .tc := ⟨.hbm, 169, rfl⟩
abbrev main_call0_call4_v10 : Ref sig .tc := ⟨.hbm, 170, rfl⟩
abbrev main_call0_call4_v11 : Ref sig .tc := ⟨.hbm, 171, rfl⟩
abbrev main_call0_call4_c_3 : Ref sig .tc := ⟨.hbm, 172, rfl⟩
abbrev main_call0_call4_v12 : Ref sig .tc := ⟨.hbm, 173, rfl⟩
abbrev main_call0_call4_v13 : Ref sig .tc := ⟨.hbm, 174, rfl⟩
abbrev main_call0_call4_v14 : Ref sig .tc := ⟨.hbm, 175, rfl⟩
abbrev main_call0_call4_c_4 : Ref sig .tc := ⟨.hbm, 176, rfl⟩
abbrev main_call0_call4_v15 : Ref sig .tc := ⟨.hbm, 177, rfl⟩
abbrev main_call0_v54 : Ref sig .tc := ⟨.hbm, 178, rfl⟩
abbrev main_call0_c_10 : Ref sig .tc := ⟨.hbm, 179, rfl⟩
abbrev main_call0_call5_v0 : Ref sig .tc := ⟨.hbm, 180, rfl⟩
abbrev main_call0_call5_c : Ref sig .tc := ⟨.hbm, 181, rfl⟩
abbrev main_call0_call5_v1 : Ref sig .tc := ⟨.hbm, 182, rfl⟩
abbrev main_call0_call5_c_0 : Ref sig .tc := ⟨.hbm, 183, rfl⟩
abbrev main_call0_call5_v2 : Ref sig .tc := ⟨.hbm, 184, rfl⟩
abbrev main_call0_call5_v3 : Ref sig .tc := ⟨.hbm, 185, rfl⟩
abbrev main_call0_call5_v4 : Ref sig .tc := ⟨.hbm, 186, rfl⟩
abbrev main_call0_call5_c_1 : Ref sig .tc := ⟨.hbm, 187, rfl⟩
abbrev main_call0_call5_v5 : Ref sig .tc := ⟨.hbm, 188, rfl⟩
abbrev main_call0_call5_v6 : Ref sig .tc := ⟨.hbm, 189, rfl⟩
abbrev main_call0_call5_c_2 : Ref sig .tc := ⟨.hbm, 190, rfl⟩
abbrev main_call0_call5_v7 : Ref sig .tc := ⟨.hbm, 191, rfl⟩
abbrev main_call0_call5_v8 : Ref sig .tc := ⟨.hbm, 192, rfl⟩
abbrev main_call0_call5_c_3 : Ref sig .tc := ⟨.hbm, 193, rfl⟩
abbrev main_call0_call5_v9 : Ref sig .tc := ⟨.hbm, 194, rfl⟩
abbrev main_call0_call5_v10 : Ref sig .tc := ⟨.hbm, 195, rfl⟩
abbrev main_call0_call5_v11 : Ref sig .tc := ⟨.hbm, 196, rfl⟩
abbrev main_call0_call5_v12 : Ref sig .tc := ⟨.hbm, 197, rfl⟩
abbrev main_call0_call5_v13 : Ref sig .tc := ⟨.hbm, 198, rfl⟩
abbrev main_call0_call5_v14 : Ref sig .tc := ⟨.hbm, 199, rfl⟩
abbrev main_call0_v55 : Ref sig .tc := ⟨.hbm, 200, rfl⟩
abbrev main_call0_v56 : Ref sig .tc := ⟨.hbm, 201, rfl⟩
abbrev main_call0_v57 : Ref sig .tc := ⟨.hbm, 202, rfl⟩
abbrev main_call0_c_11 : Ref sig .tc := ⟨.hbm, 203, rfl⟩
abbrev main_call0_v58 : Ref sig .tc := ⟨.hbm, 204, rfl⟩
abbrev main_call0_v59 : Ref sig .tc := ⟨.hbm, 205, rfl⟩
abbrev main_call0_c_12 : Ref sig .tc := ⟨.hbm, 206, rfl⟩
abbrev main_call0_v60 : Ref sig .tc := ⟨.hbm, 207, rfl⟩
abbrev main_call0_v61 : Ref sig .tc := ⟨.hbm, 208, rfl⟩
abbrev main_call0_v62 : Ref sig .tc := ⟨.hbm, 209, rfl⟩
abbrev main_call0_c_13 : Ref sig .tc := ⟨.hbm, 210, rfl⟩
abbrev main_call0_v63 : Ref sig .tc := ⟨.hbm, 211, rfl⟩
abbrev main_call0_v64 : Ref sig .tc := ⟨.hbm, 212, rfl⟩
abbrev main_call0_c_14 : Ref sig .tc := ⟨.hbm, 213, rfl⟩
abbrev main_call0_v65 : Ref sig .tc := ⟨.hbm, 214, rfl⟩
abbrev main_call0_v66 : Ref sig .tc := ⟨.hbm, 215, rfl⟩
abbrev main_call0_v67 : Ref sig .tc := ⟨.hbm, 216, rfl⟩
abbrev main_call0_v68 : Ref sig .tc := ⟨.hbm, 217, rfl⟩
abbrev main_call0_v69 : Ref sig .tc := ⟨.hbm, 218, rfl⟩
abbrev main_call0_v70 : Ref sig .tc := ⟨.hbm, 219, rfl⟩
abbrev main_call0_v71 : Ref sig .tc := ⟨.hbm, 220, rfl⟩
abbrev main_call0_v72 : Ref sig .tc := ⟨.hbm, 221, rfl⟩
abbrev main_call0_v73 : Ref sig .tc := ⟨.hbm, 222, rfl⟩
abbrev main_call0_v74 : Ref sig .tc := ⟨.hbm, 223, rfl⟩
abbrev main_call0_v75 : Ref sig .tc := ⟨.hbm, 224, rfl⟩
abbrev main_call0_call6_c : Ref sig .tc := ⟨.hbm, 225, rfl⟩
abbrev main_call0_call6_v0 : Ref sig .tc := ⟨.hbm, 226, rfl⟩
abbrev main_call0_call6_v1 : Ref sig .tc := ⟨.hbm, 227, rfl⟩
abbrev main_call0_call6_c_0 : Ref sig .tc := ⟨.hbm, 228, rfl⟩
abbrev main_call0_call6_v2 : Ref sig .tc := ⟨.hbm, 229, rfl⟩
abbrev main_call0_call6_v3 : Ref sig .tc := ⟨.hbm, 230, rfl⟩
abbrev main_call0_call6_v4 : Ref sig .tc := ⟨.hbm, 231, rfl⟩
abbrev main_call0_call6_v5 : Ref sig .tc := ⟨.hbm, 232, rfl⟩
abbrev main_call0_call6_c_1 : Ref sig .tc := ⟨.hbm, 233, rfl⟩
abbrev main_call0_call6_c_2 : Ref sig .tc := ⟨.hbm, 234, rfl⟩
abbrev main_call0_call6_v6 : Ref sig .tc := ⟨.hbm, 235, rfl⟩
abbrev main_call0_call6_v7 : Ref sig .tc := ⟨.hbm, 236, rfl⟩
abbrev main_call0_call6_v8 : Ref sig .tc := ⟨.hbm, 237, rfl⟩
abbrev main_call0_call6_v9 : Ref sig .tc := ⟨.hbm, 238, rfl⟩
abbrev main_call0_call6_v10 : Ref sig .tc := ⟨.hbm, 239, rfl⟩
abbrev main_call0_call6_v11 : Ref sig .tc := ⟨.hbm, 240, rfl⟩
abbrev main_call0_call6_c_3 : Ref sig .tc := ⟨.hbm, 241, rfl⟩
abbrev main_call0_call6_v12 : Ref sig .tc := ⟨.hbm, 242, rfl⟩
abbrev main_call0_call6_v13 : Ref sig .tc := ⟨.hbm, 243, rfl⟩
abbrev main_call0_call6_v14 : Ref sig .tc := ⟨.hbm, 244, rfl⟩
abbrev main_call0_call6_c_4 : Ref sig .tc := ⟨.hbm, 245, rfl⟩
abbrev main_call0_call6_v15 : Ref sig .tc := ⟨.hbm, 246, rfl⟩
abbrev main_call0_v76 : Ref sig .tc := ⟨.hbm, 247, rfl⟩
abbrev main_call0_c_15 : Ref sig .tc := ⟨.hbm, 248, rfl⟩
abbrev main_call0_call7_v0 : Ref sig .tc := ⟨.hbm, 249, rfl⟩
abbrev main_call0_call7_c : Ref sig .tc := ⟨.hbm, 250, rfl⟩
abbrev main_call0_call7_v1 : Ref sig .tc := ⟨.hbm, 251, rfl⟩
abbrev main_call0_call7_c_0 : Ref sig .tc := ⟨.hbm, 252, rfl⟩
abbrev main_call0_call7_v2 : Ref sig .tc := ⟨.hbm, 253, rfl⟩
abbrev main_call0_call7_v3 : Ref sig .tc := ⟨.hbm, 254, rfl⟩
abbrev main_call0_call7_v4 : Ref sig .tc := ⟨.hbm, 255, rfl⟩
abbrev main_call0_call7_c_1 : Ref sig .tc := ⟨.hbm, 256, rfl⟩
abbrev main_call0_call7_v5 : Ref sig .tc := ⟨.hbm, 257, rfl⟩
abbrev main_call0_call7_v6 : Ref sig .tc := ⟨.hbm, 258, rfl⟩
abbrev main_call0_call7_c_2 : Ref sig .tc := ⟨.hbm, 259, rfl⟩
abbrev main_call0_call7_v7 : Ref sig .tc := ⟨.hbm, 260, rfl⟩
abbrev main_call0_call7_v8 : Ref sig .tc := ⟨.hbm, 261, rfl⟩
abbrev main_call0_call7_c_3 : Ref sig .tc := ⟨.hbm, 262, rfl⟩
abbrev main_call0_call7_v9 : Ref sig .tc := ⟨.hbm, 263, rfl⟩
abbrev main_call0_call7_v10 : Ref sig .tc := ⟨.hbm, 264, rfl⟩
abbrev main_call0_call7_v11 : Ref sig .tc := ⟨.hbm, 265, rfl⟩
abbrev main_call0_call7_v12 : Ref sig .tc := ⟨.hbm, 266, rfl⟩
abbrev main_call0_call7_v13 : Ref sig .tc := ⟨.hbm, 267, rfl⟩
abbrev main_call0_call7_v14 : Ref sig .tc := ⟨.hbm, 268, rfl⟩
abbrev main_call0_v77 : Ref sig .tc := ⟨.hbm, 269, rfl⟩
abbrev main_call0_v78 : Ref sig .tc := ⟨.hbm, 270, rfl⟩
abbrev main_call0_v79 : Ref sig .tc := ⟨.hbm, 271, rfl⟩
abbrev main_call0_c_16 : Ref sig .tc := ⟨.hbm, 272, rfl⟩
abbrev main_call0_v80 : Ref sig .tc := ⟨.hbm, 273, rfl⟩
abbrev main_call0_v81 : Ref sig .tc := ⟨.hbm, 274, rfl⟩
abbrev main_call0_c_17 : Ref sig .tc := ⟨.hbm, 275, rfl⟩
abbrev main_call0_v82 : Ref sig .tc := ⟨.hbm, 276, rfl⟩
abbrev main_call0_v83 : Ref sig .tc := ⟨.hbm, 277, rfl⟩
abbrev main_call0_v84 : Ref sig .tc := ⟨.hbm, 278, rfl⟩
abbrev main_call0_c_18 : Ref sig .tc := ⟨.hbm, 279, rfl⟩
abbrev main_call0_v85 : Ref sig .tc := ⟨.hbm, 280, rfl⟩
abbrev main_call0_v86 : Ref sig .tc := ⟨.hbm, 281, rfl⟩
abbrev main_call0_c_19 : Ref sig .tc := ⟨.hbm, 282, rfl⟩
abbrev main_call0_v87 : Ref sig .tc := ⟨.hbm, 283, rfl⟩
abbrev main_call0_v88 : Ref sig .tc := ⟨.hbm, 284, rfl⟩
abbrev main_call0_v89 : Ref sig .tc := ⟨.hbm, 285, rfl⟩
abbrev main_call0_v90 : Ref sig .tc := ⟨.hbm, 286, rfl⟩
abbrev main_call0_v91 : Ref sig .tc := ⟨.hbm, 287, rfl⟩
abbrev main_call0_v92 : Ref sig .tc := ⟨.hbm, 288, rfl⟩
abbrev main_call0_v93 : Ref sig .tc := ⟨.hbm, 289, rfl⟩
abbrev main_call0_v94 : Ref sig .tc := ⟨.hbm, 290, rfl⟩
abbrev main_call0_v95 : Ref sig .tc := ⟨.hbm, 291, rfl⟩
abbrev main_call0_v96 : Ref sig .tc := ⟨.hbm, 292, rfl⟩
abbrev main_call0_v97 : Ref sig .tc := ⟨.hbm, 293, rfl⟩
abbrev main_call0_call8_c : Ref sig .tc := ⟨.hbm, 294, rfl⟩
abbrev main_call0_call8_v0 : Ref sig .tc := ⟨.hbm, 295, rfl⟩
abbrev main_call0_call8_v1 : Ref sig .tc := ⟨.hbm, 296, rfl⟩
abbrev main_call0_call8_c_0 : Ref sig .tc := ⟨.hbm, 297, rfl⟩
abbrev main_call0_call8_v2 : Ref sig .tc := ⟨.hbm, 298, rfl⟩
abbrev main_call0_call8_v3 : Ref sig .tc := ⟨.hbm, 299, rfl⟩
abbrev main_call0_call8_v4 : Ref sig .tc := ⟨.hbm, 300, rfl⟩
abbrev main_call0_call8_v5 : Ref sig .tc := ⟨.hbm, 301, rfl⟩
abbrev main_call0_call8_c_1 : Ref sig .tc := ⟨.hbm, 302, rfl⟩
abbrev main_call0_call8_c_2 : Ref sig .tc := ⟨.hbm, 303, rfl⟩
abbrev main_call0_call8_v6 : Ref sig .tc := ⟨.hbm, 304, rfl⟩
abbrev main_call0_call8_v7 : Ref sig .tc := ⟨.hbm, 305, rfl⟩
abbrev main_call0_call8_v8 : Ref sig .tc := ⟨.hbm, 306, rfl⟩
abbrev main_call0_call8_v9 : Ref sig .tc := ⟨.hbm, 307, rfl⟩
abbrev main_call0_call8_v10 : Ref sig .tc := ⟨.hbm, 308, rfl⟩
abbrev main_call0_call8_v11 : Ref sig .tc := ⟨.hbm, 309, rfl⟩
abbrev main_call0_call8_c_3 : Ref sig .tc := ⟨.hbm, 310, rfl⟩
abbrev main_call0_call8_v12 : Ref sig .tc := ⟨.hbm, 311, rfl⟩
abbrev main_call0_call8_v13 : Ref sig .tc := ⟨.hbm, 312, rfl⟩
abbrev main_call0_call8_v14 : Ref sig .tc := ⟨.hbm, 313, rfl⟩
abbrev main_call0_call8_c_4 : Ref sig .tc := ⟨.hbm, 314, rfl⟩
abbrev main_call0_call8_v15 : Ref sig .tc := ⟨.hbm, 315, rfl⟩
abbrev main_call0_v98 : Ref sig .tc := ⟨.hbm, 316, rfl⟩
abbrev main_call0_c_20 : Ref sig .tc := ⟨.hbm, 317, rfl⟩
abbrev main_call0_call9_v0 : Ref sig .tc := ⟨.hbm, 318, rfl⟩
abbrev main_call0_call9_c : Ref sig .tc := ⟨.hbm, 319, rfl⟩
abbrev main_call0_call9_v1 : Ref sig .tc := ⟨.hbm, 320, rfl⟩
abbrev main_call0_call9_c_0 : Ref sig .tc := ⟨.hbm, 321, rfl⟩
abbrev main_call0_call9_v2 : Ref sig .tc := ⟨.hbm, 322, rfl⟩
abbrev main_call0_call9_v3 : Ref sig .tc := ⟨.hbm, 323, rfl⟩
abbrev main_call0_call9_v4 : Ref sig .tc := ⟨.hbm, 324, rfl⟩
abbrev main_call0_call9_c_1 : Ref sig .tc := ⟨.hbm, 325, rfl⟩
abbrev main_call0_call9_v5 : Ref sig .tc := ⟨.hbm, 326, rfl⟩
abbrev main_call0_call9_v6 : Ref sig .tc := ⟨.hbm, 327, rfl⟩
abbrev main_call0_call9_c_2 : Ref sig .tc := ⟨.hbm, 328, rfl⟩
abbrev main_call0_call9_v7 : Ref sig .tc := ⟨.hbm, 329, rfl⟩
abbrev main_call0_call9_v8 : Ref sig .tc := ⟨.hbm, 330, rfl⟩
abbrev main_call0_call9_c_3 : Ref sig .tc := ⟨.hbm, 331, rfl⟩
abbrev main_call0_call9_v9 : Ref sig .tc := ⟨.hbm, 332, rfl⟩
abbrev main_call0_call9_v10 : Ref sig .tc := ⟨.hbm, 333, rfl⟩
abbrev main_call0_call9_v11 : Ref sig .tc := ⟨.hbm, 334, rfl⟩
abbrev main_call0_call9_v12 : Ref sig .tc := ⟨.hbm, 335, rfl⟩
abbrev main_call0_call9_v13 : Ref sig .tc := ⟨.hbm, 336, rfl⟩
abbrev main_call0_call9_v14 : Ref sig .tc := ⟨.hbm, 337, rfl⟩
abbrev main_call0_v99 : Ref sig .tc := ⟨.hbm, 338, rfl⟩
abbrev main_call0_v100 : Ref sig .tc := ⟨.hbm, 339, rfl⟩
abbrev main_call0_v101 : Ref sig .tc := ⟨.hbm, 340, rfl⟩
abbrev main_call0_c_21 : Ref sig .tc := ⟨.hbm, 341, rfl⟩
abbrev main_call0_v102 : Ref sig .tc := ⟨.hbm, 342, rfl⟩
abbrev main_call0_v103 : Ref sig .tc := ⟨.hbm, 343, rfl⟩
abbrev main_call0_c_22 : Ref sig .tc := ⟨.hbm, 344, rfl⟩
abbrev main_call0_v104 : Ref sig .tc := ⟨.hbm, 345, rfl⟩
abbrev main_call0_v105 : Ref sig .tc := ⟨.hbm, 346, rfl⟩
abbrev main_call0_v106 : Ref sig .tc := ⟨.hbm, 347, rfl⟩
abbrev main_call0_c_23 : Ref sig .tc := ⟨.hbm, 348, rfl⟩
abbrev main_call0_v107 : Ref sig .tc := ⟨.hbm, 349, rfl⟩
abbrev main_call0_v108 : Ref sig .tc := ⟨.hbm, 350, rfl⟩
abbrev main_call0_c_24 : Ref sig .tc := ⟨.hbm, 351, rfl⟩
abbrev main_call0_v109 : Ref sig .tc := ⟨.hbm, 352, rfl⟩
abbrev main_call0_v110 : Ref sig .tc := ⟨.hbm, 353, rfl⟩
abbrev main_call0_v111 : Ref sig .tc := ⟨.hbm, 354, rfl⟩
abbrev main_call0_v112 : Ref sig .tc := ⟨.hbm, 355, rfl⟩
abbrev main_call0_v113 : Ref sig .tc := ⟨.hbm, 356, rfl⟩
abbrev main_call0_v114 : Ref sig .tc := ⟨.hbm, 357, rfl⟩
abbrev main_call0_v115 : Ref sig .tc := ⟨.hbm, 358, rfl⟩
abbrev main_call0_v116 : Ref sig .tc := ⟨.hbm, 359, rfl⟩
abbrev main_call0_v117 : Ref sig .tc := ⟨.hbm, 360, rfl⟩
abbrev main_call0_call10_c : Ref sig .tc := ⟨.hbm, 361, rfl⟩
abbrev main_call0_call10_v0 : Ref sig .tc := ⟨.hbm, 362, rfl⟩
abbrev main_call0_call10_v1 : Ref sig .tc := ⟨.hbm, 363, rfl⟩
abbrev main_call0_call10_c_0 : Ref sig .tc := ⟨.hbm, 364, rfl⟩
abbrev main_call0_call10_v2 : Ref sig .tc := ⟨.hbm, 365, rfl⟩
abbrev main_call0_call10_v3 : Ref sig .tc := ⟨.hbm, 366, rfl⟩
abbrev main_call0_call10_v4 : Ref sig .tc := ⟨.hbm, 367, rfl⟩
abbrev main_call0_call10_v5 : Ref sig .tc := ⟨.hbm, 368, rfl⟩
abbrev main_call0_call10_c_1 : Ref sig .tc := ⟨.hbm, 369, rfl⟩
abbrev main_call0_call10_c_2 : Ref sig .tc := ⟨.hbm, 370, rfl⟩
abbrev main_call0_call10_v6 : Ref sig .tc := ⟨.hbm, 371, rfl⟩
abbrev main_call0_call10_v7 : Ref sig .tc := ⟨.hbm, 372, rfl⟩
abbrev main_call0_call10_v8 : Ref sig .tc := ⟨.hbm, 373, rfl⟩
abbrev main_call0_call10_v9 : Ref sig .tc := ⟨.hbm, 374, rfl⟩
abbrev main_call0_call10_v10 : Ref sig .tc := ⟨.hbm, 375, rfl⟩
abbrev main_call0_call10_v11 : Ref sig .tc := ⟨.hbm, 376, rfl⟩
abbrev main_call0_call10_c_3 : Ref sig .tc := ⟨.hbm, 377, rfl⟩
abbrev main_call0_call10_v12 : Ref sig .tc := ⟨.hbm, 378, rfl⟩
abbrev main_call0_call10_v13 : Ref sig .tc := ⟨.hbm, 379, rfl⟩
abbrev main_call0_call10_cst : Ref sig .tc := ⟨.hbm, 380, rfl⟩
abbrev main_call0_call10_v14 : Ref sig .tc := ⟨.hbm, 381, rfl⟩
abbrev main_call0_v118 : Ref sig .tc := ⟨.hbm, 382, rfl⟩
abbrev main_call0_v119 : Ref sig .tc := ⟨.hbm, 383, rfl⟩
abbrev main_call0_v120 : Ref sig .tc := ⟨.hbm, 384, rfl⟩
abbrev main_v0 : Ref sig .tc := ⟨.hbm, 385, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S26x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x26x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x26x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x26x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x26x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x26x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x26 : Shape := ⟨2, ![4096, 26]⟩
abbrev S26x7 : Shape := ⟨2, ![26, 7]⟩
abbrev S7x104000x16 : Shape := ⟨3, ![7, 104000, 16]⟩
abbrev S104000x128 : Shape := ⟨2, ![104000, 128]⟩
abbrev S7x16x2048x8 : Shape := ⟨4, ![7, 16, 2048, 8]⟩
abbrev S104000 : Shape := ⟨1, ![104000]⟩
abbrev S1 : Shape := ⟨1, ![1]⟩
abbrev S_ : Shape := ⟨0, ![]⟩
abbrev S26 : Shape := ⟨1, ![26]⟩
abbrev S26x1 : Shape := ⟨2, ![26, 1]⟩
abbrev S1x26 : Shape := ⟨2, ![1, 26]⟩
abbrev S4096x26x1 : Shape := ⟨3, ![4096, 26, 1]⟩
abbrev S1x1x1 : Shape := ⟨3, ![1, 1, 1]⟩
abbrev S4096x26x128 : Shape := ⟨3, ![4096, 26, 128]⟩
abbrev S1x26x1 : Shape := ⟨3, ![1, 26, 1]⟩
abbrev S16 : Shape := ⟨1, ![16]⟩
abbrev S1x1x16 : Shape := ⟨3, ![1, 1, 16]⟩
abbrev S1x104000x16 : Shape := ⟨3, ![1, 104000, 16]⟩
abbrev S104000x16 : Shape := ⟨2, ![104000, 16]⟩
abbrev S4096x26x16 : Shape := ⟨3, ![4096, 26, 16]⟩
abbrev S1x16x2048x8 : Shape := ⟨4, ![1, 16, 2048, 8]⟩
abbrev S16x2048x8 : Shape := ⟨3, ![16, 2048, 8]⟩
abbrev S4096x26x16x1 : Shape := ⟨4, ![4096, 26, 16, 1]⟩
abbrev S4096x26x16x2 : Shape := ⟨4, ![4096, 26, 16, 2]⟩
abbrev S4096x26x16x8 : Shape := ⟨4, ![4096, 26, 16, 8]⟩
abbrev S4096 : Shape := ⟨1, ![4096]⟩
abbrev S4096x1 : Shape := ⟨2, ![4096, 1]⟩
abbrev S1x1 : Shape := ⟨2, ![1, 1]⟩
abbrev S4096x128 : Shape := ⟨2, ![4096, 128]⟩

abbrev nBuf : Space → Nat
  | .hbm => 552
  | .vmem => 2
  | .smem => 0
  | _ => 0

abbrev hbmTy0_0 (i : Nat) : BufTy := match i % 128 with
  | 0 => ⟨S4096x26, .i32⟩
  | 1 => ⟨S26x7, .f32⟩
  | 2 => ⟨S7x104000x16, .i32⟩
  | 3 => ⟨S104000x128, .f32⟩
  | 4 => ⟨S7x16x2048x8, .f32⟩
  | 5 => ⟨S104000, .f32⟩
  | 6 => ⟨S1, .f32⟩
  | 7 => ⟨S26x7, .f32⟩
  | 8 => ⟨S_, .f32⟩
  | 9 => ⟨S26, .f32⟩
  | 10 => ⟨S_, .f32⟩
  | 11 => ⟨S26, .f32⟩
  | 12 => ⟨S26, .f32⟩
  | 13 => ⟨S26x1, .f32⟩
  | 14 => ⟨S26x7, .f32⟩
  | 15 => ⟨S26x7, .f32⟩
  | 16 => ⟨S26x7, .f32⟩
  | 17 => ⟨S_, .f32⟩
  | 18 => ⟨S26, .f32⟩
  | 19 => ⟨S26x1, .f32⟩
  | 20 => ⟨S26x7, .f32⟩
  | 21 => ⟨S26x7, .f32⟩
  | 22 => ⟨S26, .i32⟩
  | 23 => ⟨S_, .i32⟩
  | 24 => ⟨S26, .i32⟩
  | 25 => ⟨S26, .i32⟩
  | 26 => ⟨S1x26, .i32⟩
  | 27 => ⟨S4096x26, .i32⟩
  | 28 => ⟨S4096x26, .i32⟩
  | 29 => ⟨S_, .i32⟩
  | 30 => ⟨S4096x26, .i32⟩
  | 31 => ⟨S4096x26, .i1⟩
  | 32 => ⟨S_, .i32⟩
  | 33 => ⟨S4096x26, .i32⟩
  | 34 => ⟨S4096x26, .i32⟩
  | 35 => ⟨S4096x26, .i32⟩
  | 36 => ⟨S4096x26x1, .i32⟩
  | 37 => ⟨S1, .i32⟩
  | 38 => ⟨S_, .i32⟩
  | 39 => ⟨S4096x26x1, .i32⟩
  | 40 => ⟨S4096x26x1, .i1⟩
  | 41 => ⟨S1x1x1, .i32⟩
  | 42 => ⟨S4096x26x1, .i32⟩
  | 43 => ⟨S4096x26x1, .i1⟩
  | 44 => ⟨S4096x26x1, .i1⟩
  | 45 => ⟨S_, .i1⟩
  | 46 => ⟨S4096x26, .i1⟩
  | 47 => ⟨S4096x26x128, .f32⟩
  | 48 => ⟨S4096x26x128, .i1⟩
  | 49 => ⟨S_, .f32⟩
  | 50 => ⟨S4096x26x128, .f32⟩
  | 51 => ⟨S4096x26x128, .f32⟩
  | 52 => ⟨S26x1, .f32⟩
  | 53 => ⟨S26, .f32⟩
  | 54 => ⟨S1x26x1, .f32⟩
  | 55 => ⟨S4096x26x128, .f32⟩
  | 56 => ⟨S4096x26x128, .f32⟩
  | 57 => ⟨S16, .i32⟩
  | 58 => ⟨S1x1x16, .i32⟩
  | 59 => ⟨S1x104000x16, .i32⟩
  | 60 => ⟨S104000x16, .i32⟩
  | 61 => ⟨S_, .i32⟩
  | 62 => ⟨S4096x26, .i32⟩
  | 63 => ⟨S4096x26, .i1⟩
  | 64 => ⟨S_, .i32⟩
  | 65 => ⟨S4096x26, .i32⟩
  | 66 => ⟨S4096x26, .i32⟩
  | 67 => ⟨S4096x26, .i32⟩
  | 68 => ⟨S4096x26x1, .i32⟩
  | 69 => ⟨S1, .i32⟩
  | 70 => ⟨S_, .i32⟩
  | 71 => ⟨S4096x26x1, .i32⟩
  | 72 => ⟨S4096x26x1, .i1⟩
  | 73 => ⟨S1x1x1, .i32⟩
  | 74 => ⟨S4096x26x1, .i32⟩
  | 75 => ⟨S4096x26x1, .i1⟩
  | 76 => ⟨S4096x26x1, .i1⟩
  | 77 => ⟨S_, .i1⟩
  | 78 => ⟨S4096x26, .i1⟩
  | 79 => ⟨S4096x26x16, .i32⟩
  | 80 => ⟨S4096x26x16, .i1⟩
  | 81 => ⟨S_, .i32⟩
  | 82 => ⟨S4096x26x16, .i32⟩
  | 83 => ⟨S4096x26x16, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S4096x26x16, .i32⟩
  | 91 => ⟨S4096x26x16, .i32⟩
  | 92 => ⟨S_, .i32⟩
  | 93 => ⟨S4096x26x16, .i32⟩
  | 94 => ⟨S4096x26x16, .i1⟩
  | 95 => ⟨S_, .i32⟩
  | 96 => ⟨S4096x26x16, .i32⟩
  | 97 => ⟨S4096x26x16, .i1⟩
  | 98 => ⟨S_, .i32⟩
  | 99 => ⟨S_, .i1⟩
  | 100 => ⟨S4096x26x16, .i1⟩
  | 101 => ⟨S4096x26x16, .i1⟩
  | 102 => ⟨S4096x26x16, .i1⟩
  | 103 => ⟨S4096x26x16, .i32⟩
  | 104 => ⟨S4096x26x16, .i32⟩
  | 105 => ⟨S4096x26x16, .i32⟩
  | 106 => ⟨S1x16x2048x8, .f32⟩
  | 107 => ⟨S16x2048x8, .f32⟩
  | 108 => ⟨S_, .i32⟩
  | 109 => ⟨S1x1x16, .i32⟩
  | 110 => ⟨S1x1x16, .i1⟩
  | 111 => ⟨S_, .i32⟩
  | 112 => ⟨S1x1x16, .i32⟩
  | 113 => ⟨S1x1x16, .i32⟩
  | 114 => ⟨S1x1x16, .i32⟩
  | 115 => ⟨S_, .i32⟩
  | 116 => ⟨S4096x26x16, .i32⟩
  | 117 => ⟨S4096x26x16, .i1⟩
  | 118 => ⟨S_, .i32⟩
  | 119 => ⟨S4096x26x16, .i32⟩
  | 120 => ⟨S4096x26x16, .i32⟩
  | 121 => ⟨S4096x26x16, .i32⟩
  | 122 => ⟨S4096x26x16, .i32⟩
  | 123 => ⟨S4096x26x16x1, .i32⟩
  | 124 => ⟨S4096x26x16x1, .i32⟩
  | 125 => ⟨S4096x26x16x2, .i32⟩
  | 126 => ⟨S4096x26x16x8, .f32⟩
  | 127 => ⟨S4096x26x128, .f32⟩
  | _ => ⟨S4096x26, .i32⟩

abbrev hbmTy0_1 (i : Nat) : BufTy := match i % 128 with
  | 0 => ⟨S26x1, .f32⟩
  | 1 => ⟨S26, .f32⟩
  | 2 => ⟨S1x26x1, .f32⟩
  | 3 => ⟨S4096x26x128, .f32⟩
  | 4 => ⟨S4096x26x128, .f32⟩
  | 5 => ⟨S4096x26x128, .f32⟩
  | 6 => ⟨S1x104000x16, .i32⟩
  | 7 => ⟨S104000x16, .i32⟩
  | 8 => ⟨S_, .i32⟩
  | 9 => ⟨S4096x26, .i32⟩
  | 10 => ⟨S4096x26, .i1⟩
  | 11 => ⟨S_, .i32⟩
  | 12 => ⟨S4096x26, .i32⟩
  | 13 => ⟨S4096x26, .i32⟩
  | 14 => ⟨S4096x26, .i32⟩
  | 15 => ⟨S4096x26x1, .i32⟩
  | 16 => ⟨S1, .i32⟩
  | 17 => ⟨S_, .i32⟩
  | 18 => ⟨S4096x26x1, .i32⟩
  | 19 => ⟨S4096x26x1, .i1⟩
  | 20 => ⟨S1x1x1, .i32⟩
  | 21 => ⟨S4096x26x1, .i32⟩
  | 22 => ⟨S4096x26x1, .i1⟩
  | 23 => ⟨S4096x26x1, .i1⟩
  | 24 => ⟨S_, .i1⟩
  | 25 => ⟨S4096x26, .i1⟩
  | 26 => ⟨S4096x26x16, .i32⟩
  | 27 => ⟨S4096x26x16, .i1⟩
  | 28 => ⟨S_, .i32⟩
  | 29 => ⟨S4096x26x16, .i32⟩
  | 30 => ⟨S4096x26x16, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S4096x26x16, .i32⟩
  | 38 => ⟨S4096x26x16, .i32⟩
  | 39 => ⟨S_, .i32⟩
  | 40 => ⟨S4096x26x16, .i32⟩
  | 41 => ⟨S4096x26x16, .i1⟩
  | 42 => ⟨S_, .i32⟩
  | 43 => ⟨S4096x26x16, .i32⟩
  | 44 => ⟨S4096x26x16, .i1⟩
  | 45 => ⟨S_, .i32⟩
  | 46 => ⟨S_, .i1⟩
  | 47 => ⟨S4096x26x16, .i1⟩
  | 48 => ⟨S4096x26x16, .i1⟩
  | 49 => ⟨S4096x26x16, .i1⟩
  | 50 => ⟨S4096x26x16, .i32⟩
  | 51 => ⟨S4096x26x16, .i32⟩
  | 52 => ⟨S4096x26x16, .i32⟩
  | 53 => ⟨S1x16x2048x8, .f32⟩
  | 54 => ⟨S16x2048x8, .f32⟩
  | 55 => ⟨S_, .i32⟩
  | 56 => ⟨S1x1x16, .i32⟩
  | 57 => ⟨S1x1x16, .i1⟩
  | 58 => ⟨S_, .i32⟩
  | 59 => ⟨S1x1x16, .i32⟩
  | 60 => ⟨S1x1x16, .i32⟩
  | 61 => ⟨S1x1x16, .i32⟩
  | 62 => ⟨S_, .i32⟩
  | 63 => ⟨S4096x26x16, .i32⟩
  | 64 => ⟨S4096x26x16, .i1⟩
  | 65 => ⟨S_, .i32⟩
  | 66 => ⟨S4096x26x16, .i32⟩
  | 67 => ⟨S4096x26x16, .i32⟩
  | 68 => ⟨S4096x26x16, .i32⟩
  | 69 => ⟨S4096x26x16, .i32⟩
  | 70 => ⟨S4096x26x16x1, .i32⟩
  | 71 => ⟨S4096x26x16x1, .i32⟩
  | 72 => ⟨S4096x26x16x2, .i32⟩
  | 73 => ⟨S4096x26x16x8, .f32⟩
  | 74 => ⟨S4096x26x128, .f32⟩
  | 75 => ⟨S26x1, .f32⟩
  | 76 => ⟨S26, .f32⟩
  | 77 => ⟨S1x26x1, .f32⟩
  | 78 => ⟨S4096x26x128, .f32⟩
  | 79 => ⟨S4096x26x128, .f32⟩
  | 80 => ⟨S4096x26x128, .f32⟩
  | 81 => ⟨S1x104000x16, .i32⟩
  | 82 => ⟨S104000x16, .i32⟩
  | 83 => ⟨S_, .i32⟩
  | 84 => ⟨S4096x26, .i32⟩
  | 85 => ⟨S4096x26, .i1⟩
  | 86 => ⟨S_, .i32⟩
  | 87 => ⟨S4096x26, .i32⟩
  | 88 => ⟨S4096x26, .i32⟩
  | 89 => ⟨S4096x26, .i32⟩
  | 90 => ⟨S4096x26x1, .i32⟩
  | 91 => ⟨S1, .i32⟩
  | 92 => ⟨S_, .i32⟩
  | 93 => ⟨S4096x26x1, .i32⟩
  | 94 => ⟨S4096x26x1, .i1⟩
  | 95 => ⟨S1x1x1, .i32⟩
  | 96 => ⟨S4096x26x1, .i32⟩
  | 97 => ⟨S4096x26x1, .i1⟩
  | 98 => ⟨S4096x26x1, .i1⟩
  | 99 => ⟨S_, .i1⟩
  | 100 => ⟨S4096x26, .i1⟩
  | 101 => ⟨S4096x26x16, .i32⟩
  | 102 => ⟨S4096x26x16, .i1⟩
  | 103 => ⟨S_, .i32⟩
  | 104 => ⟨S4096x26x16, .i32⟩
  | 105 => ⟨S4096x26x16, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S4096x26x16, .i32⟩
  | 113 => ⟨S4096x26x16, .i32⟩
  | 114 => ⟨S_, .i32⟩
  | 115 => ⟨S4096x26x16, .i32⟩
  | 116 => ⟨S4096x26x16, .i1⟩
  | 117 => ⟨S_, .i32⟩
  | 118 => ⟨S4096x26x16, .i32⟩
  | 119 => ⟨S4096x26x16, .i1⟩
  | 120 => ⟨S_, .i32⟩
  | 121 => ⟨S_, .i1⟩
  | 122 => ⟨S4096x26x16, .i1⟩
  | 123 => ⟨S4096x26x16, .i1⟩
  | 124 => ⟨S4096x26x16, .i1⟩
  | 125 => ⟨S4096x26x16, .i32⟩
  | 126 => ⟨S4096x26x16, .i32⟩
  | 127 => ⟨S4096x26x16, .i32⟩
  | _ => ⟨S4096x26, .i32⟩

abbrev hbmTy0_2 (i : Nat) : BufTy := match i % 128 with
  | 0 => ⟨S1x16x2048x8, .f32⟩
  | 1 => ⟨S16x2048x8, .f32⟩
  | 2 => ⟨S_, .i32⟩
  | 3 => ⟨S1x1x16, .i32⟩
  | 4 => ⟨S1x1x16, .i1⟩
  | 5 => ⟨S_, .i32⟩
  | 6 => ⟨S1x1x16, .i32⟩
  | 7 => ⟨S1x1x16, .i32⟩
  | 8 => ⟨S1x1x16, .i32⟩
  | 9 => ⟨S_, .i32⟩
  | 10 => ⟨S4096x26x16, .i32⟩
  | 11 => ⟨S4096x26x16, .i1⟩
  | 12 => ⟨S_, .i32⟩
  | 13 => ⟨S4096x26x16, .i32⟩
  | 14 => ⟨S4096x26x16, .i32⟩
  | 15 => ⟨S4096x26x16, .i32⟩
  | 16 => ⟨S4096x26x16, .i32⟩
  | 17 => ⟨S4096x26x16x1, .i32⟩
  | 18 => ⟨S4096x26x16x1, .i32⟩
  | 19 => ⟨S4096x26x16x2, .i32⟩
  | 20 => ⟨S4096x26x16x8, .f32⟩
  | 21 => ⟨S4096x26x128, .f32⟩
  | 22 => ⟨S26x1, .f32⟩
  | 23 => ⟨S26, .f32⟩
  | 24 => ⟨S1x26x1, .f32⟩
  | 25 => ⟨S4096x26x128, .f32⟩
  | 26 => ⟨S4096x26x128, .f32⟩
  | 27 => ⟨S4096x26x128, .f32⟩
  | 28 => ⟨S1x104000x16, .i32⟩
  | 29 => ⟨S104000x16, .i32⟩
  | 30 => ⟨S_, .i32⟩
  | 31 => ⟨S4096x26, .i32⟩
  | 32 => ⟨S4096x26, .i1⟩
  | 33 => ⟨S_, .i32⟩
  | 34 => ⟨S4096x26, .i32⟩
  | 35 => ⟨S4096x26, .i32⟩
  | 36 => ⟨S4096x26, .i32⟩
  | 37 => ⟨S4096x26x1, .i32⟩
  | 38 => ⟨S1, .i32⟩
  | 39 => ⟨S_, .i32⟩
  | 40 => ⟨S4096x26x1, .i32⟩
  | 41 => ⟨S4096x26x1, .i1⟩
  | 42 => ⟨S1x1x1, .i32⟩
  | 43 => ⟨S4096x26x1, .i32⟩
  | 44 => ⟨S4096x26x1, .i1⟩
  | 45 => ⟨S4096x26x1, .i1⟩
  | 46 => ⟨S_, .i1⟩
  | 47 => ⟨S4096x26, .i1⟩
  | 48 => ⟨S4096x26x16, .i32⟩
  | 49 => ⟨S4096x26x16, .i1⟩
  | 50 => ⟨S_, .i32⟩
  | 51 => ⟨S4096x26x16, .i32⟩
  | 52 => ⟨S4096x26x16, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S4096x26x16, .i32⟩
  | 60 => ⟨S4096x26x16, .i32⟩
  | 61 => ⟨S_, .i32⟩
  | 62 => ⟨S4096x26x16, .i32⟩
  | 63 => ⟨S4096x26x16, .i1⟩
  | 64 => ⟨S_, .i32⟩
  | 65 => ⟨S4096x26x16, .i32⟩
  | 66 => ⟨S4096x26x16, .i1⟩
  | 67 => ⟨S_, .i32⟩
  | 68 => ⟨S_, .i1⟩
  | 69 => ⟨S4096x26x16, .i1⟩
  | 70 => ⟨S4096x26x16, .i1⟩
  | 71 => ⟨S4096x26x16, .i1⟩
  | 72 => ⟨S4096x26x16, .i32⟩
  | 73 => ⟨S4096x26x16, .i32⟩
  | 74 => ⟨S4096x26x16, .i32⟩
  | 75 => ⟨S1x16x2048x8, .f32⟩
  | 76 => ⟨S16x2048x8, .f32⟩
  | 77 => ⟨S_, .i32⟩
  | 78 => ⟨S1x1x16, .i32⟩
  | 79 => ⟨S1x1x16, .i1⟩
  | 80 => ⟨S_, .i32⟩
  | 81 => ⟨S1x1x16, .i32⟩
  | 82 => ⟨S1x1x16, .i32⟩
  | 83 => ⟨S1x1x16, .i32⟩
  | 84 => ⟨S_, .i32⟩
  | 85 => ⟨S4096x26x16, .i32⟩
  | 86 => ⟨S4096x26x16, .i1⟩
  | 87 => ⟨S_, .i32⟩
  | 88 => ⟨S4096x26x16, .i32⟩
  | 89 => ⟨S4096x26x16, .i32⟩
  | 90 => ⟨S4096x26x16, .i32⟩
  | 91 => ⟨S4096x26x16, .i32⟩
  | 92 => ⟨S4096x26x16x1, .i32⟩
  | 93 => ⟨S4096x26x16x1, .i32⟩
  | 94 => ⟨S4096x26x16x2, .i32⟩
  | 95 => ⟨S4096x26x16x8, .f32⟩
  | 96 => ⟨S4096x26x128, .f32⟩
  | 97 => ⟨S26x1, .f32⟩
  | 98 => ⟨S26, .f32⟩
  | 99 => ⟨S1x26x1, .f32⟩
  | 100 => ⟨S4096x26x128, .f32⟩
  | 101 => ⟨S4096x26x128, .f32⟩
  | 102 => ⟨S4096x26x128, .f32⟩
  | 103 => ⟨S1x104000x16, .i32⟩
  | 104 => ⟨S104000x16, .i32⟩
  | 105 => ⟨S_, .i32⟩
  | 106 => ⟨S4096x26, .i32⟩
  | 107 => ⟨S4096x26, .i1⟩
  | 108 => ⟨S_, .i32⟩
  | 109 => ⟨S4096x26, .i32⟩
  | 110 => ⟨S4096x26, .i32⟩
  | 111 => ⟨S4096x26, .i32⟩
  | 112 => ⟨S4096x26x1, .i32⟩
  | 113 => ⟨S1, .i32⟩
  | 114 => ⟨S_, .i32⟩
  | 115 => ⟨S4096x26x1, .i32⟩
  | 116 => ⟨S4096x26x1, .i1⟩
  | 117 => ⟨S1x1x1, .i32⟩
  | 118 => ⟨S4096x26x1, .i32⟩
  | 119 => ⟨S4096x26x1, .i1⟩
  | 120 => ⟨S4096x26x1, .i1⟩
  | 121 => ⟨S_, .i1⟩
  | 122 => ⟨S4096x26, .i1⟩
  | 123 => ⟨S4096x26x16, .i32⟩
  | 124 => ⟨S4096x26x16, .i1⟩
  | 125 => ⟨S_, .i32⟩
  | 126 => ⟨S4096x26x16, .i32⟩
  | 127 => ⟨S4096x26x16, .i32⟩
  | _ => ⟨S4096x26, .i32⟩

abbrev hbmTy0_3 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S4096x26x16, .i32⟩
  | 7 => ⟨S4096x26x16, .i32⟩
  | 8 => ⟨S_, .i32⟩
  | 9 => ⟨S4096x26x16, .i32⟩
  | 10 => ⟨S4096x26x16, .i1⟩
  | 11 => ⟨S_, .i32⟩
  | 12 => ⟨S4096x26x16, .i32⟩
  | 13 => ⟨S4096x26x16, .i1⟩
  | 14 => ⟨S_, .i32⟩
  | 15 => ⟨S_, .i1⟩
  | 16 => ⟨S4096x26x16, .i1⟩
  | 17 => ⟨S4096x26x16, .i1⟩
  | 18 => ⟨S4096x26x16, .i1⟩
  | 19 => ⟨S4096x26x16, .i32⟩
  | 20 => ⟨S4096x26x16, .i32⟩
  | 21 => ⟨S4096x26x16, .i32⟩
  | 22 => ⟨S1x16x2048x8, .f32⟩
  | 23 => ⟨S16x2048x8, .f32⟩
  | 24 => ⟨S_, .i32⟩
  | 25 => ⟨S1x1x16, .i32⟩
  | 26 => ⟨S1x1x16, .i1⟩
  | 27 => ⟨S_, .i32⟩
  | 28 => ⟨S1x1x16, .i32⟩
  | 29 => ⟨S1x1x16, .i32⟩
  | 30 => ⟨S1x1x16, .i32⟩
  | 31 => ⟨S_, .i32⟩
  | 32 => ⟨S4096x26x16, .i32⟩
  | 33 => ⟨S4096x26x16, .i1⟩
  | 34 => ⟨S_, .i32⟩
  | 35 => ⟨S4096x26x16, .i32⟩
  | 36 => ⟨S4096x26x16, .i32⟩
  | 37 => ⟨S4096x26x16, .i32⟩
  | 38 => ⟨S4096x26x16, .i32⟩
  | 39 => ⟨S4096x26x16x1, .i32⟩
  | 40 => ⟨S4096x26x16x1, .i32⟩
  | 41 => ⟨S4096x26x16x2, .i32⟩
  | 42 => ⟨S4096x26x16x8, .f32⟩
  | 43 => ⟨S4096x26x128, .f32⟩
  | 44 => ⟨S26x1, .f32⟩
  | 45 => ⟨S26, .f32⟩
  | 46 => ⟨S1x26x1, .f32⟩
  | 47 => ⟨S4096x26x128, .f32⟩
  | 48 => ⟨S4096x26x128, .f32⟩
  | 49 => ⟨S4096x26x128, .f32⟩
  | 50 => ⟨S1x104000x16, .i32⟩
  | 51 => ⟨S104000x16, .i32⟩
  | 52 => ⟨S_, .i32⟩
  | 53 => ⟨S4096x26, .i32⟩
  | 54 => ⟨S4096x26, .i1⟩
  | 55 => ⟨S_, .i32⟩
  | 56 => ⟨S4096x26, .i32⟩
  | 57 => ⟨S4096x26, .i32⟩
  | 58 => ⟨S4096x26, .i32⟩
  | 59 => ⟨S4096x26x1, .i32⟩
  | 60 => ⟨S1, .i32⟩
  | 61 => ⟨S_, .i32⟩
  | 62 => ⟨S4096x26x1, .i32⟩
  | 63 => ⟨S4096x26x1, .i1⟩
  | 64 => ⟨S1x1x1, .i32⟩
  | 65 => ⟨S4096x26x1, .i32⟩
  | 66 => ⟨S4096x26x1, .i1⟩
  | 67 => ⟨S4096x26x1, .i1⟩
  | 68 => ⟨S_, .i1⟩
  | 69 => ⟨S4096x26, .i1⟩
  | 70 => ⟨S4096x26x16, .i32⟩
  | 71 => ⟨S4096x26x16, .i1⟩
  | 72 => ⟨S_, .i32⟩
  | 73 => ⟨S4096x26x16, .i32⟩
  | 74 => ⟨S4096x26x16, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S4096x26x16, .i32⟩
  | 82 => ⟨S4096x26x16, .i32⟩
  | 83 => ⟨S_, .i32⟩
  | 84 => ⟨S4096x26x16, .i32⟩
  | 85 => ⟨S4096x26x16, .i1⟩
  | 86 => ⟨S_, .i32⟩
  | 87 => ⟨S4096x26x16, .i32⟩
  | 88 => ⟨S4096x26x16, .i1⟩
  | 89 => ⟨S_, .i32⟩
  | 90 => ⟨S_, .i1⟩
  | 91 => ⟨S4096x26x16, .i1⟩
  | 92 => ⟨S4096x26x16, .i1⟩
  | 93 => ⟨S4096x26x16, .i1⟩
  | 94 => ⟨S4096x26x16, .i32⟩
  | 95 => ⟨S4096x26x16, .i32⟩
  | 96 => ⟨S4096x26x16, .i32⟩
  | 97 => ⟨S1x16x2048x8, .f32⟩
  | 98 => ⟨S16x2048x8, .f32⟩
  | 99 => ⟨S_, .i32⟩
  | 100 => ⟨S1x1x16, .i32⟩
  | 101 => ⟨S1x1x16, .i1⟩
  | 102 => ⟨S_, .i32⟩
  | 103 => ⟨S1x1x16, .i32⟩
  | 104 => ⟨S1x1x16, .i32⟩
  | 105 => ⟨S1x1x16, .i32⟩
  | 106 => ⟨S_, .i32⟩
  | 107 => ⟨S4096x26x16, .i32⟩
  | 108 => ⟨S4096x26x16, .i1⟩
  | 109 => ⟨S_, .i32⟩
  | 110 => ⟨S4096x26x16, .i32⟩
  | 111 => ⟨S4096x26x16, .i32⟩
  | 112 => ⟨S4096x26x16, .i32⟩
  | 113 => ⟨S4096x26x16, .i32⟩
  | 114 => ⟨S4096x26x16x1, .i32⟩
  | 115 => ⟨S4096x26x16x1, .i32⟩
  | 116 => ⟨S4096x26x16x2, .i32⟩
  | 117 => ⟨S4096x26x16x8, .f32⟩
  | 118 => ⟨S4096x26x128, .f32⟩
  | 119 => ⟨S26x1, .f32⟩
  | 120 => ⟨S26, .f32⟩
  | 121 => ⟨S1x26x1, .f32⟩
  | 122 => ⟨S4096x26x128, .f32⟩
  | 123 => ⟨S4096x26x128, .f32⟩
  | 124 => ⟨S4096x26x128, .f32⟩
  | 125 => ⟨S_, .i32⟩
  | 126 => ⟨S4096x26, .i32⟩
  | 127 => ⟨S4096x26, .i1⟩
  | _ => ⟨S4096x26, .i32⟩

abbrev hbmTy0_4 (i : Nat) : BufTy := match i % 128 with
  | 0 => ⟨S_, .i32⟩
  | 1 => ⟨S4096x26, .i32⟩
  | 2 => ⟨S4096x26, .i32⟩
  | 3 => ⟨S4096x26, .i32⟩
  | 4 => ⟨S4096x26x1, .i32⟩
  | 5 => ⟨S1, .i32⟩
  | 6 => ⟨S_, .i32⟩
  | 7 => ⟨S4096x26x1, .i32⟩
  | 8 => ⟨S4096x26x1, .i1⟩
  | 9 => ⟨S1x1x1, .i32⟩
  | 10 => ⟨S4096x26x1, .i32⟩
  | 11 => ⟨S4096x26x1, .i1⟩
  | 12 => ⟨S4096x26x1, .i1⟩
  | 13 => ⟨S_, .i1⟩
  | 14 => ⟨S4096x26, .i1⟩
  | 15 => ⟨S4096x26, .f32⟩
  | 16 => ⟨S_, .f32⟩
  | 17 => ⟨S4096x26, .f32⟩
  | 18 => ⟨S4096x26, .f32⟩
  | 19 => ⟨S_, .f32⟩
  | 20 => ⟨S4096, .f32⟩
  | 21 => ⟨S4096x1, .f32⟩
  | 22 => ⟨S1x1, .f32⟩
  | 23 => ⟨S4096x1, .f32⟩
  | 24 => ⟨S4096x1, .f32⟩
  | 25 => ⟨S_, .f32⟩
  | 26 => ⟨S4096x128, .f32⟩
  | 27 => ⟨S4096x128, .f32⟩
  | 28 => ⟨S4096x26x128, .f32⟩
  | 29 => ⟨S_, .f32⟩
  | 30 => ⟨S4096x128, .f32⟩
  | 31 => ⟨S4096x128, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096, .f32⟩
  | _ => ⟨S4096x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x26, .i32⟩

abbrev bufTy : (tb : Table) → Fin (tcTables nBuf tb) → BufTy
  | .hbm, ⟨i, _⟩ => hbmTy i
  | .local _ .vmem, ⟨0, _⟩ => ⟨S26x7, .f32⟩
  | .local _ .vmem, ⟨1, _⟩ => ⟨S26x7, .f32⟩
  | _, _ => ⟨S4096x26, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_c_4 : Ref sig .tc := ⟨.hbm, 81, rfl⟩
abbrev main_call1_v15 : Ref sig .tc := ⟨.hbm, 82, rfl⟩
abbrev main_v28 : Ref sig .tc := ⟨.hbm, 83, rfl⟩
abbrev main_c_2 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_1 : Ref sig .tc := ⟨.hbm, 92, rfl⟩
abbrev main_call2_v5 : Ref sig .tc := ⟨.hbm, 93, rfl⟩
abbrev main_call2_v6 : Ref sig .tc := ⟨.hbm, 94, rfl⟩
abbrev main_call2_c_2 : Ref sig .tc := ⟨.hbm, 95, rfl⟩
abbrev main_call2_v7 : Ref sig .tc := ⟨.hbm, 96, rfl⟩
abbrev main_call2_v8 : Ref sig .tc := ⟨.hbm, 97, rfl⟩
abbrev main_call2_c_3 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_c_3 : Ref sig .tc := ⟨.hbm, 108, rfl⟩
abbrev main_v32 : Ref sig .tc := ⟨.hbm, 109, rfl⟩
abbrev main_v33 : Ref sig .tc := ⟨.hbm, 110, rfl⟩
abbrev main_c_4 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_c_5 : Ref sig .tc := ⟨.hbm, 115, rfl⟩
abbrev main_v37 : Ref sig .tc := ⟨.hbm, 116, rfl⟩
abbrev main_v38 : Ref sig .tc := ⟨.hbm, 117, rfl⟩
abbrev main_c_6 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_call3_c : Ref sig .tc := ⟨.hbm, 136, rfl⟩
abbrev main_call3_v0 : Ref sig .tc := ⟨.hbm, 137, rfl⟩
abbrev main_call3_v1 : Ref sig .tc := ⟨.hbm, 138, rfl⟩
abbrev main_call3_c_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_c_1 : Ref sig .tc := ⟨.hbm, 144, rfl⟩
abbrev main_call3_c_2 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_c_3 : Ref sig .tc := ⟨.hbm, 152, rfl⟩
abbrev main_call3_v12 : Ref sig .tc := ⟨.hbm, 153, rfl⟩
abbrev main_call3_v13 : Ref sig .tc := ⟨.hbm, 154, rfl⟩
abbrev main_call3_v14 : Ref sig .tc := ⟨.hbm, 155, rfl⟩
abbrev main_call3_c_4 : Ref sig .tc := ⟨.hbm, 156, rfl⟩
abbrev main_call3_v15 : Ref sig .tc := ⟨.hbm, 157, rfl⟩
abbrev main_v56 : Ref sig .tc := ⟨.hbm, 158, rfl⟩
abbrev main_c_7 : Ref sig .tc := ⟨.hbm, 159, rfl⟩
abbrev main_call4_v0 : Ref sig .tc := ⟨.hbm, 160, rfl⟩
abbrev main_call4_c : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_c_1 : Ref sig .tc := ⟨.hbm, 167, rfl⟩
abbrev main_call4_v5 : Ref sig .tc := ⟨.hbm, 168, rfl⟩
abbrev main_call4_v6 : Ref sig .tc := ⟨.hbm, 169, rfl⟩
abbrev main_call4_c_2 : Ref sig .tc := ⟨.hbm, 170, rfl⟩
abbrev main_call4_v7 : Ref sig .tc := ⟨.hbm, 171, rfl⟩
abbrev main_call4_v8 : Ref sig .tc := ⟨.hbm, 172, rfl⟩
abbrev main_call4_c_3 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_v12 : Ref sig .tc := ⟨.hbm, 177, rfl⟩
abbrev main_call4_v13 : Ref sig .tc := ⟨.hbm, 178, rfl⟩
abbrev main_call4_v14 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_c_8 : Ref sig .tc := ⟨.hbm, 183, rfl⟩
abbrev main_v60 : Ref sig .tc := ⟨.hbm, 184, rfl⟩
abbrev main_v61 : Ref sig .tc := ⟨.hbm, 185, rfl⟩
abbrev main_c_9 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_c_10 : Ref sig .tc := ⟨.hbm, 190, rfl⟩
abbrev main_v65 : Ref sig .tc := ⟨.hbm, 191, rfl⟩
abbrev main_v66 : Ref sig .tc := ⟨.hbm, 192, rfl⟩
abbrev main_c_11 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_v82 : Ref sig .tc := ⟨.hbm, 209, rfl⟩
abbrev main_v83 : Ref sig .tc := ⟨.hbm, 210, rfl⟩
abbrev main_call5_c : Ref sig .tc := ⟨.hbm, 211, rfl⟩
abbrev main_call5_v0 : Ref sig .tc := ⟨.hbm, 212, rfl⟩
abbrev main_call5_v1 : Ref sig .tc := ⟨.hbm, 213, rfl⟩
abbrev main_call5_c_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_c_1 : Ref sig .tc := ⟨.hbm, 219, rfl⟩
abbrev main_call5_c_2 : Ref sig .tc := ⟨.hbm, 220, rfl⟩
abbrev main_call5_v6 : Ref sig .tc := ⟨.hbm, 221, rfl⟩
abbrev main_call5_v7 : Ref sig .tc := ⟨.hbm, 222, rfl⟩
abbrev main_call5_v8 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_c_3 : Ref sig .tc := ⟨.hbm, 227, rfl⟩
abbrev main_call5_v12 : Ref sig .tc := ⟨.hbm, 228, rfl⟩
abbrev main_call5_v13 : Ref sig .tc := ⟨.hbm, 229, rfl⟩
abbrev main_call5_v14 : Ref sig .tc := ⟨.hbm, 230, rfl⟩
abbrev main_call5_c_4 : Ref sig .tc := ⟨.hbm, 231, rfl⟩
abbrev main_call5_v15 : Ref sig .tc := ⟨.hbm, 232, rfl⟩
abbrev main_v84 : Ref sig .tc := ⟨.hbm, 233, rfl⟩
abbrev main_c_12 : Ref sig .tc := ⟨.hbm, 234, rfl⟩
abbrev main_call6_v0 : Ref sig .tc := ⟨.hbm, 235, rfl⟩
abbrev main_call6_c : Ref sig .tc := ⟨.hbm, 236, rfl⟩
abbrev main_call6_v1 : Ref sig .tc := ⟨.hbm, 237, rfl⟩
abbrev main_call6_c_0 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_call6_c_1 : Ref sig .tc := ⟨.hbm, 242, rfl⟩
abbrev main_call6_v5 : Ref sig .tc := ⟨.hbm, 243, rfl⟩
abbrev main_call6_v6 : Ref sig .tc := ⟨.hbm, 244, rfl⟩
abbrev main_call6_c_2 : Ref sig .tc := ⟨.hbm, 245, rfl⟩
abbrev main_call6_v7 : Ref sig .tc := ⟨.hbm, 246, rfl⟩
abbrev main_call6_v8 : Ref sig .tc := ⟨.hbm, 247, rfl⟩
abbrev main_call6_c_3 : Ref sig .tc := ⟨.hbm, 248, rfl⟩
abbrev main_call6_v9 : Ref sig .tc := ⟨.hbm, 249, rfl⟩
abbrev main_call6_v10 : Ref sig .tc := ⟨.hbm, 250, rfl⟩
abbrev main_call6_v11 : Ref sig .tc := ⟨.hbm, 251, rfl⟩
abbrev main_call6_v12 : Ref sig .tc := ⟨.hbm, 252, rfl⟩
abbrev main_call6_v13 : Ref sig .tc := ⟨.hbm, 253, rfl⟩
abbrev main_call6_v14 : Ref sig .tc := ⟨.hbm, 254, rfl⟩
abbrev main_v85 : Ref sig .tc := ⟨.hbm, 255, rfl⟩
abbrev main_v86 : Ref sig .tc := ⟨.hbm, 256, rfl⟩
abbrev main_v87 : Ref sig .tc := ⟨.hbm, 257, rfl⟩
abbrev main_c_13 : Ref sig .tc := ⟨.hbm, 258, rfl⟩
abbrev main_v88 : Ref sig .tc := ⟨.hbm, 259, rfl⟩
abbrev main_v89 : Ref sig .tc := ⟨.hbm, 260, rfl⟩
abbrev main_c_14 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_c_15 : Ref sig .tc := ⟨.hbm, 265, rfl⟩
abbrev main_v93 : Ref sig .tc := ⟨.hbm, 266, rfl⟩
abbrev main_v94 : Ref sig .tc := ⟨.hbm, 267, rfl⟩
abbrev main_c_16 : Ref sig .tc := ⟨.hbm, 268, rfl⟩
abbrev main_v95 : Ref sig .tc := ⟨.hbm, 269, rfl⟩
abbrev main_v96 : Ref sig .tc := ⟨.hbm, 270, rfl⟩
abbrev main_v97 : Ref sig .tc := ⟨.hbm, 271, rfl⟩
abbrev main_v98 : Ref sig .tc := ⟨.hbm, 272, rfl⟩
abbrev main_v99 : Ref sig .tc := ⟨.hbm, 273, rfl⟩
abbrev main_v100 : Ref sig .tc := ⟨.hbm, 274, rfl⟩
abbrev main_v101 : Ref sig .tc := ⟨.hbm, 275, rfl⟩
abbrev main_v102 : Ref sig .tc := ⟨.hbm, 276, rfl⟩
abbrev main_v103 : Ref sig .tc := ⟨.hbm, 277, rfl⟩
abbrev main_v104 : Ref sig .tc := ⟨.hbm, 278, rfl⟩
abbrev main_v105 : Ref sig .tc := ⟨.hbm, 279, rfl⟩
abbrev main_v106 : Ref sig .tc := ⟨.hbm, 280, rfl⟩
abbrev main_v107 : Ref sig .tc := ⟨.hbm, 281, rfl⟩
abbrev main_v108 : Ref sig .tc := ⟨.hbm, 282, rfl⟩
abbrev main_v109 : Ref sig .tc := ⟨.hbm, 283, rfl⟩
abbrev main_v110 : Ref sig .tc := ⟨.hbm, 284, rfl⟩
abbrev main_v111 : Ref sig .tc := ⟨.hbm, 285, rfl⟩
abbrev main_call7_c : Ref sig .tc := ⟨.hbm, 286, rfl⟩
abbrev main_call7_v0 : Ref sig .tc := ⟨.hbm, 287, rfl⟩
abbrev main_call7_v1 : Ref sig .tc := ⟨.hbm, 288, rfl⟩
abbrev main_call7_c_0 : Ref sig .tc := ⟨.hbm, 289, rfl⟩
abbrev main_call7_v2 : Ref sig .tc := ⟨.hbm, 290, rfl⟩
abbrev main_call7_v3 : Ref sig .tc := ⟨.hbm, 291, rfl⟩
abbrev main_call7_v4 : Ref sig .tc := ⟨.hbm, 292, rfl⟩
abbrev main_call7_v5 : Ref sig .tc := ⟨.hbm, 293, rfl⟩
abbrev main_call7_c_1 : Ref sig .tc := ⟨.hbm, 294, rfl⟩
abbrev main_call7_c_2 : Ref sig .tc := ⟨.hbm, 295, rfl⟩
abbrev main_call7_v6 : Ref sig .tc := ⟨.hbm, 296, rfl⟩
abbrev main_call7_v7 : Ref sig .tc := ⟨.hbm, 297, rfl⟩
abbrev main_call7_v8 : Ref sig .tc := ⟨.hbm, 298, rfl⟩
abbrev main_call7_v9 : Ref sig .tc := ⟨.hbm, 299, rfl⟩
abbrev main_call7_v10 : Ref sig .tc := ⟨.hbm, 300, rfl⟩
abbrev main_call7_v11 : Ref sig .tc := ⟨.hbm, 301, rfl⟩
abbrev main_call7_c_3 : Ref sig .tc := ⟨.hbm, 302, rfl⟩
abbrev main_call7_v12 : Ref sig .tc := ⟨.hbm, 303, rfl⟩
abbrev main_call7_v13 : Ref sig .tc := ⟨.hbm, 304, rfl⟩
abbrev main_call7_v14 : Ref sig .tc := ⟨.hbm, 305, rfl⟩
abbrev main_call7_c_4 : Ref sig .tc := ⟨.hbm, 306, rfl⟩
abbrev main_call7_v15 : Ref sig .tc := ⟨.hbm, 307, rfl⟩
abbrev main_v112 : Ref sig .tc := ⟨.hbm, 308, rfl⟩
abbrev main_c_17 : Ref sig .tc := ⟨.hbm, 309, rfl⟩
abbrev main_call8_v0 : Ref sig .tc := ⟨.hbm, 310, rfl⟩
abbrev main_call8_c : Ref sig .tc := ⟨.hbm, 311, rfl⟩
abbrev main_call8_v1 : Ref sig .tc := ⟨.hbm, 312, rfl⟩
abbrev main_call8_c_0 : Ref sig .tc := ⟨.hbm, 313, rfl⟩
abbrev main_call8_v2 : Ref sig .tc := ⟨.hbm, 314, rfl⟩
abbrev main_call8_v3 : Ref sig .tc := ⟨.hbm, 315, rfl⟩
abbrev main_call8_v4 : Ref sig .tc := ⟨.hbm, 316, rfl⟩
abbrev main_call8_c_1 : Ref sig .tc := ⟨.hbm, 317, rfl⟩
abbrev main_call8_v5 : Ref sig .tc := ⟨.hbm, 318, rfl⟩
abbrev main_call8_v6 : Ref sig .tc := ⟨.hbm, 319, rfl⟩
abbrev main_call8_c_2 : Ref sig .tc := ⟨.hbm, 320, rfl⟩
abbrev main_call8_v7 : Ref sig .tc := ⟨.hbm, 321, rfl⟩
abbrev main_call8_v8 : Ref sig .tc := ⟨.hbm, 322, rfl⟩
abbrev main_call8_c_3 : Ref sig .tc := ⟨.hbm, 323, rfl⟩
abbrev main_call8_v9 : Ref sig .tc := ⟨.hbm, 324, rfl⟩
abbrev main_call8_v10 : Ref sig .tc := ⟨.hbm, 325, rfl⟩
abbrev main_call8_v11 : Ref sig .tc := ⟨.hbm, 326, rfl⟩
abbrev main_call8_v12 : Ref sig .tc := ⟨.hbm, 327, rfl⟩
abbrev main_call8_v13 : Ref sig .tc := ⟨.hbm, 328, rfl⟩
abbrev main_call8_v14 : Ref sig .tc := ⟨.hbm, 329, rfl⟩
abbrev main_v113 : Ref sig .tc := ⟨.hbm, 330, rfl⟩
abbrev main_v114 : Ref sig .tc := ⟨.hbm, 331, rfl⟩
abbrev main_v115 : Ref sig .tc := ⟨.hbm, 332, rfl⟩
abbrev main_c_18 : Ref sig .tc := ⟨.hbm, 333, rfl⟩
abbrev main_v116 : Ref sig .tc := ⟨.hbm, 334, rfl⟩
abbrev main_v117 : Ref sig .tc := ⟨.hbm, 335, rfl⟩
abbrev main_c_19 : Ref sig .tc := ⟨.hbm, 336, rfl⟩
abbrev main_v118 : Ref sig .tc := ⟨.hbm, 337, rfl⟩
abbrev main_v119 : Ref sig .tc := ⟨.hbm, 338, rfl⟩
abbrev main_v120 : Ref sig .tc := ⟨.hbm, 339, rfl⟩
abbrev main_c_20 : Ref sig .tc := ⟨.hbm, 340, rfl⟩
abbrev main_v121 : Ref sig .tc := ⟨.hbm, 341, rfl⟩
abbrev main_v122 : Ref sig .tc := ⟨.hbm, 342, rfl⟩
abbrev main_c_21 : Ref sig .tc := ⟨.hbm, 343, rfl⟩
abbrev main_v123 : Ref sig .tc := ⟨.hbm, 344, rfl⟩
abbrev main_v124 : Ref sig .tc := ⟨.hbm, 345, rfl⟩
abbrev main_v125 : Ref sig .tc := ⟨.hbm, 346, rfl⟩
abbrev main_v126 : Ref sig .tc := ⟨.hbm, 347, rfl⟩
abbrev main_v127 : Ref sig .tc := ⟨.hbm, 348, rfl⟩
abbrev main_v128 : Ref sig .tc := ⟨.hbm, 349, rfl⟩
abbrev main_v129 : Ref sig .tc := ⟨.hbm, 350, rfl⟩
abbrev main_v130 : Ref sig .tc := ⟨.hbm, 351, rfl⟩
abbrev main_v131 : Ref sig .tc := ⟨.hbm, 352, rfl⟩
abbrev main_v132 : Ref sig .tc := ⟨.hbm, 353, rfl⟩
abbrev main_v133 : Ref sig .tc := ⟨.hbm, 354, rfl⟩
abbrev main_v134 : Ref sig .tc := ⟨.hbm, 355, rfl⟩
abbrev main_v135 : Ref sig .tc := ⟨.hbm, 356, rfl⟩
abbrev main_v136 : Ref sig .tc := ⟨.hbm, 357, rfl⟩
abbrev main_v137 : Ref sig .tc := ⟨.hbm, 358, rfl⟩
abbrev main_v138 : Ref sig .tc := ⟨.hbm, 359, rfl⟩
abbrev main_v139 : Ref sig .tc := ⟨.hbm, 360, rfl⟩
abbrev main_call9_c : Ref sig .tc := ⟨.hbm, 361, rfl⟩
abbrev main_call9_v0 : Ref sig .tc := ⟨.hbm, 362, rfl⟩
abbrev main_call9_v1 : Ref sig .tc := ⟨.hbm, 363, rfl⟩
abbrev main_call9_c_0 : Ref sig .tc := ⟨.hbm, 364, rfl⟩
abbrev main_call9_v2 : Ref sig .tc := ⟨.hbm, 365, rfl⟩
abbrev main_call9_v3 : Ref sig .tc := ⟨.hbm, 366, rfl⟩
abbrev main_call9_v4 : Ref sig .tc := ⟨.hbm, 367, rfl⟩
abbrev main_call9_v5 : Ref sig .tc := ⟨.hbm, 368, rfl⟩
abbrev main_call9_c_1 : Ref sig .tc := ⟨.hbm, 369, rfl⟩
abbrev main_call9_c_2 : Ref sig .tc := ⟨.hbm, 370, rfl⟩
abbrev main_call9_v6 : Ref sig .tc := ⟨.hbm, 371, rfl⟩
abbrev main_call9_v7 : Ref sig .tc := ⟨.hbm, 372, rfl⟩
abbrev main_call9_v8 : Ref sig .tc := ⟨.hbm, 373, rfl⟩
abbrev main_call9_v9 : Ref sig .tc := ⟨.hbm, 374, rfl⟩
abbrev main_call9_v10 : Ref sig .tc := ⟨.hbm, 375, rfl⟩
abbrev main_call9_v11 : Ref sig .tc := ⟨.hbm, 376, rfl⟩
abbrev main_call9_c_3 : Ref sig .tc := ⟨.hbm, 377, rfl⟩
abbrev main_call9_v12 : Ref sig .tc := ⟨.hbm, 378, rfl⟩
abbrev main_call9_v13 : Ref sig .tc := ⟨.hbm, 379, rfl⟩
abbrev main_call9_v14 : Ref sig .tc := ⟨.hbm, 380, rfl⟩
abbrev main_call9_c_4 : Ref sig .tc := ⟨.hbm, 381, rfl⟩
abbrev main_call9_v15 : Ref sig .tc := ⟨.hbm, 382, rfl⟩
abbrev main_v140 : Ref sig .tc := ⟨.hbm, 383, rfl⟩
abbrev main_c_22 : Ref sig .tc := ⟨.hbm, 384, rfl⟩
abbrev main_call10_v0 : Ref sig .tc := ⟨.hbm, 385, rfl⟩
abbrev main_call10_c : Ref sig .tc := ⟨.hbm, 386, rfl⟩
abbrev main_call10_v1 : Ref sig .tc := ⟨.hbm, 387, rfl⟩
abbrev main_call10_c_0 : Ref sig .tc := ⟨.hbm, 388, rfl⟩
abbrev main_call10_v2 : Ref sig .tc := ⟨.hbm, 389, rfl⟩
abbrev main_call10_v3 : Ref sig .tc := ⟨.hbm, 390, rfl⟩
abbrev main_call10_v4 : Ref sig .tc := ⟨.hbm, 391, rfl⟩
abbrev main_call10_c_1 : Ref sig .tc := ⟨.hbm, 392, rfl⟩
abbrev main_call10_v5 : Ref sig .tc := ⟨.hbm, 393, rfl⟩
abbrev main_call10_v6 : Ref sig .tc := ⟨.hbm, 394, rfl⟩
abbrev main_call10_c_2 : Ref sig .tc := ⟨.hbm, 395, rfl⟩
abbrev main_call10_v7 : Ref sig .tc := ⟨.hbm, 396, rfl⟩
abbrev main_call10_v8 : Ref sig .tc := ⟨.hbm, 397, rfl⟩
abbrev main_call10_c_3 : Ref sig .tc := ⟨.hbm, 398, rfl⟩
abbrev main_call10_v9 : Ref sig .tc := ⟨.hbm, 399, rfl⟩
abbrev main_call10_v10 : Ref sig .tc := ⟨.hbm, 400, rfl⟩
abbrev main_call10_v11 : Ref sig .tc := ⟨.hbm, 401, rfl⟩
abbrev main_call10_v12 : Ref sig .tc := ⟨.hbm, 402, rfl⟩
abbrev main_call10_v13 : Ref sig .tc := ⟨.hbm, 403, rfl⟩
abbrev main_call10_v14 : Ref sig .tc := ⟨.hbm, 404, rfl⟩
abbrev main_v141 : Ref sig .tc := ⟨.hbm, 405, rfl⟩
abbrev main_v142 : Ref sig .tc := ⟨.hbm, 406, rfl⟩
abbrev main_v143 : Ref sig .tc := ⟨.hbm, 407, rfl⟩
abbrev main_c_23 : Ref sig .tc := ⟨.hbm, 408, rfl⟩
abbrev main_v144 : Ref sig .tc := ⟨.hbm, 409, rfl⟩
abbrev main_v145 : Ref sig .tc := ⟨.hbm, 410, rfl⟩
abbrev main_c_24 : Ref sig .tc := ⟨.hbm, 411, rfl⟩
abbrev main_v146 : Ref sig .tc := ⟨.hbm, 412, rfl⟩
abbrev main_v147 : Ref sig .tc := ⟨.hbm, 413, rfl⟩
abbrev main_v148 : Ref sig .tc := ⟨.hbm, 414, rfl⟩
abbrev main_c_25 : Ref sig .tc := ⟨.hbm, 415, rfl⟩
abbrev main_v149 : Ref sig .tc := ⟨.hbm, 416, rfl⟩
abbrev main_v150 : Ref sig .tc := ⟨.hbm, 417, rfl⟩
abbrev main_c_26 : Ref sig .tc := ⟨.hbm, 418, rfl⟩
abbrev main_v151 : Ref sig .tc := ⟨.hbm, 419, rfl⟩
abbrev main_v152 : Ref sig .tc := ⟨.hbm, 420, rfl⟩
abbrev main_v153 : Ref sig .tc := ⟨.hbm, 421, rfl⟩
abbrev main_v154 : Ref sig .tc := ⟨.hbm, 422, rfl⟩
abbrev main_v155 : Ref sig .tc := ⟨.hbm, 423, rfl⟩
abbrev main_v156 : Ref sig .tc := ⟨.hbm, 424, rfl⟩
abbrev main_v157 : Ref sig .tc := ⟨.hbm, 425, rfl⟩
abbrev main_v158 : Ref sig .tc := ⟨.hbm, 426, rfl⟩
abbrev main_v159 : Ref sig .tc := ⟨.hbm, 427, rfl⟩
abbrev main_v160 : Ref sig .tc := ⟨.hbm, 428, rfl⟩
abbrev main_v161 : Ref sig .tc := ⟨.hbm, 429, rfl⟩
abbrev main_v162 : Ref sig .tc := ⟨.hbm, 430, rfl⟩
abbrev main_v163 : Ref sig .tc := ⟨.hbm, 431, rfl⟩
abbrev main_v164 : Ref sig .tc := ⟨.hbm, 432, rfl⟩
abbrev main_v165 : Ref sig .tc := ⟨.hbm, 433, rfl⟩
abbrev main_v166 : Ref sig .tc := ⟨.hbm, 434, rfl⟩
abbrev main_v167 : Ref sig .tc := ⟨.hbm, 435, rfl⟩
abbrev main_call11_c : Ref sig .tc := ⟨.hbm, 436, rfl⟩
abbrev main_call11_v0 : Ref sig .tc := ⟨.hbm, 437, rfl⟩
abbrev main_call11_v1 : Ref sig .tc := ⟨.hbm, 438, rfl⟩
abbrev main_call11_c_0 : Ref sig .tc := ⟨.hbm, 439, rfl⟩
abbrev main_call11_v2 : Ref sig .tc := ⟨.hbm, 440, rfl⟩
abbrev main_call11_v3 : Ref sig .tc := ⟨.hbm, 441, rfl⟩
abbrev main_call11_v4 : Ref sig .tc := ⟨.hbm, 442, rfl⟩
abbrev main_call11_v5 : Ref sig .tc := ⟨.hbm, 443, rfl⟩
abbrev main_call11_c_1 : Ref sig .tc := ⟨.hbm, 444, rfl⟩
abbrev main_call11_c_2 : Ref sig .tc := ⟨.hbm, 445, rfl⟩
abbrev main_call11_v6 : Ref sig .tc := ⟨.hbm, 446, rfl⟩
abbrev main_call11_v7 : Ref sig .tc := ⟨.hbm, 447, rfl⟩
abbrev main_call11_v8 : Ref sig .tc := ⟨.hbm, 448, rfl⟩
abbrev main_call11_v9 : Ref sig .tc := ⟨.hbm, 449, rfl⟩
abbrev main_call11_v10 : Ref sig .tc := ⟨.hbm, 450, rfl⟩
abbrev main_call11_v11 : Ref sig .tc := ⟨.hbm, 451, rfl⟩
abbrev main_call11_c_3 : Ref sig .tc := ⟨.hbm, 452, rfl⟩
abbrev main_call11_v12 : Ref sig .tc := ⟨.hbm, 453, rfl⟩
abbrev main_call11_v13 : Ref sig .tc := ⟨.hbm, 454, rfl⟩
abbrev main_call11_v14 : Ref sig .tc := ⟨.hbm, 455, rfl⟩
abbrev main_call11_c_4 : Ref sig .tc := ⟨.hbm, 456, rfl⟩
abbrev main_call11_v15 : Ref sig .tc := ⟨.hbm, 457, rfl⟩
abbrev main_v168 : Ref sig .tc := ⟨.hbm, 458, rfl⟩
abbrev main_c_27 : Ref sig .tc := ⟨.hbm, 459, rfl⟩
abbrev main_call12_v0 : Ref sig .tc := ⟨.hbm, 460, rfl⟩
abbrev main_call12_c : Ref sig .tc := ⟨.hbm, 461, rfl⟩
abbrev main_call12_v1 : Ref sig .tc := ⟨.hbm, 462, rfl⟩
abbrev main_call12_c_0 : Ref sig .tc := ⟨.hbm, 463, rfl⟩
abbrev main_call12_v2 : Ref sig .tc := ⟨.hbm, 464, rfl⟩
abbrev main_call12_v3 : Ref sig .tc := ⟨.hbm, 465, rfl⟩
abbrev main_call12_v4 : Ref sig .tc := ⟨.hbm, 466, rfl⟩
abbrev main_call12_c_1 : Ref sig .tc := ⟨.hbm, 467, rfl⟩
abbrev main_call12_v5 : Ref sig .tc := ⟨.hbm, 468, rfl⟩
abbrev main_call12_v6 : Ref sig .tc := ⟨.hbm, 469, rfl⟩
abbrev main_call12_c_2 : Ref sig .tc := ⟨.hbm, 470, rfl⟩
abbrev main_call12_v7 : Ref sig .tc := ⟨.hbm, 471, rfl⟩
abbrev main_call12_v8 : Ref sig .tc := ⟨.hbm, 472, rfl⟩
abbrev main_call12_c_3 : Ref sig .tc := ⟨.hbm, 473, rfl⟩
abbrev main_call12_v9 : Ref sig .tc := ⟨.hbm, 474, rfl⟩
abbrev main_call12_v10 : Ref sig .tc := ⟨.hbm, 475, rfl⟩
abbrev main_call12_v11 : Ref sig .tc := ⟨.hbm, 476, rfl⟩
abbrev main_call12_v12 : Ref sig .tc := ⟨.hbm, 477, rfl⟩
abbrev main_call12_v13 : Ref sig .tc := ⟨.hbm, 478, rfl⟩
abbrev main_call12_v14 : Ref sig .tc := ⟨.hbm, 479, rfl⟩
abbrev main_v169 : Ref sig .tc := ⟨.hbm, 480, rfl⟩
abbrev main_v170 : Ref sig .tc := ⟨.hbm, 481, rfl⟩
abbrev main_v171 : Ref sig .tc := ⟨.hbm, 482, rfl⟩
abbrev main_c_28 : Ref sig .tc := ⟨.hbm, 483, rfl⟩
abbrev main_v172 : Ref sig .tc := ⟨.hbm, 484, rfl⟩
abbrev main_v173 : Ref sig .tc := ⟨.hbm, 485, rfl⟩
abbrev main_c_29 : Ref sig .tc := ⟨.hbm, 486, rfl⟩
abbrev main_v174 : Ref sig .tc := ⟨.hbm, 487, rfl⟩
abbrev main_v175 : Ref sig .tc := ⟨.hbm, 488, rfl⟩
abbrev main_v176 : Ref sig .tc := ⟨.hbm, 489, rfl⟩
abbrev main_c_30 : Ref sig .tc := ⟨.hbm, 490, rfl⟩
abbrev main_v177 : Ref sig .tc := ⟨.hbm, 491, rfl⟩
abbrev main_v178 : Ref sig .tc := ⟨.hbm, 492, rfl⟩
abbrev main_c_31 : Ref sig .tc := ⟨.hbm, 493, rfl⟩
abbrev main_v179 : Ref sig .tc := ⟨.hbm, 494, rfl⟩
abbrev main_v180 : Ref sig .tc := ⟨.hbm, 495, rfl⟩
abbrev main_v181 : Ref sig .tc := ⟨.hbm, 496, rfl⟩
abbrev main_v182 : Ref sig .tc := ⟨.hbm, 497, rfl⟩
abbrev main_v183 : Ref sig .tc := ⟨.hbm, 498, rfl⟩
abbrev main_v184 : Ref sig .tc := ⟨.hbm, 499, rfl⟩
abbrev main_v185 : Ref sig .tc := ⟨.hbm, 500, rfl⟩
abbrev main_v186 : Ref sig .tc := ⟨.hbm, 501, rfl⟩
abbrev main_v187 : Ref sig .tc := ⟨.hbm, 502, rfl⟩
abbrev main_v188 : Ref sig .tc := ⟨.hbm, 503, rfl⟩
abbrev main_v189 : Ref sig .tc := ⟨.hbm, 504, rfl⟩
abbrev main_v190 : Ref sig .tc := ⟨.hbm, 505, rfl⟩
abbrev main_v191 : Ref sig .tc := ⟨.hbm, 506, rfl⟩
abbrev main_v192 : Ref sig .tc := ⟨.hbm, 507, rfl⟩
abbrev main_v193 : Ref sig .tc := ⟨.hbm, 508, rfl⟩
abbrev main_call13_c : Ref sig .tc := ⟨.hbm, 509, rfl⟩
abbrev main_call13_v0 : Ref sig .tc := ⟨.hbm, 510, rfl⟩
abbrev main_call13_v1 : Ref sig .tc := ⟨.hbm, 511, rfl⟩
abbrev main_call13_c_0 : Ref sig .tc := ⟨.hbm, 512, rfl⟩
abbrev main_call13_v2 : Ref sig .tc := ⟨.hbm, 513, rfl⟩
abbrev main_call13_v3 : Ref sig .tc := ⟨.hbm, 514, rfl⟩
abbrev main_call13_v4 : Ref sig .tc := ⟨.hbm, 515, rfl⟩
abbrev main_call13_v5 : Ref sig .tc := ⟨.hbm, 516, rfl⟩
abbrev main_call13_c_1 : Ref sig .tc := ⟨.hbm, 517, rfl⟩
abbrev main_call13_c_2 : Ref sig .tc := ⟨.hbm, 518, rfl⟩
abbrev main_call13_v6 : Ref sig .tc := ⟨.hbm, 519, rfl⟩
abbrev main_call13_v7 : Ref sig .tc := ⟨.hbm, 520, rfl⟩
abbrev main_call13_v8 : Ref sig .tc := ⟨.hbm, 521, rfl⟩
abbrev main_call13_v9 : Ref sig .tc := ⟨.hbm, 522, rfl⟩
abbrev main_call13_v10 : Ref sig .tc := ⟨.hbm, 523, rfl⟩
abbrev main_call13_v11 : Ref sig .tc := ⟨.hbm, 524, rfl⟩
abbrev main_call13_c_3 : Ref sig .tc := ⟨.hbm, 525, rfl⟩
abbrev main_call13_v12 : Ref sig .tc := ⟨.hbm, 526, rfl⟩
abbrev main_call13_v13 : Ref sig .tc := ⟨.hbm, 527, rfl⟩
abbrev main_call13_cst : Ref sig .tc := ⟨.hbm, 528, rfl⟩
abbrev main_call13_v14 : Ref sig .tc := ⟨.hbm, 529, rfl⟩
abbrev main_v194 : Ref sig .tc := ⟨.hbm, 530, rfl⟩
abbrev main_cst_32 : Ref sig .tc := ⟨.hbm, 531, rfl⟩
abbrev main_v195 : Ref sig .tc := ⟨.hbm, 532, rfl⟩
abbrev main_v196 : Ref sig .tc := ⟨.hbm, 533, rfl⟩
abbrev main_v197 : Ref sig .tc := ⟨.hbm, 534, rfl⟩
abbrev main_v198 : Ref sig .tc := ⟨.hbm, 535, rfl⟩
abbrev main_v199 : Ref sig .tc := ⟨.hbm, 536, rfl⟩
abbrev main_cst_33 : Ref sig .tc := ⟨.hbm, 537, rfl⟩
abbrev main_v200 : Ref sig .tc := ⟨.hbm, 538, rfl⟩
abbrev main_v201 : Ref sig .tc := ⟨.hbm, 539, rfl⟩
abbrev main_v202 : Ref sig .tc := ⟨.hbm, 540, rfl⟩
abbrev main_cst_34 : Ref sig .tc := ⟨.hbm, 541, rfl⟩
abbrev main_v203 : Ref sig .tc := ⟨.hbm, 542, rfl⟩
abbrev main_v204 : Ref sig .tc := ⟨.hbm, 543, rfl⟩
abbrev main_cst_35 : Ref sig .tc := ⟨.hbm, 544, rfl⟩
abbrev main_v205 : Ref sig .tc := ⟨.hbm, 545, rfl⟩
abbrev main_v206 : Ref sig .tc := ⟨.hbm, 546, rfl⟩
abbrev main_cst_36 : Ref sig .tc := ⟨.hbm, 547, rfl⟩
abbrev main_v207 : Ref sig .tc := ⟨.hbm, 548, rfl⟩
abbrev main_v208 : Ref sig .tc := ⟨.hbm, 549, rfl⟩
abbrev main_v209 : Ref sig .tc := ⟨.hbm, 550, rfl⟩
abbrev main_v210 : Ref sig .tc := ⟨.hbm, 551, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S26x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S26x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Ref.lean ====
module

public import proofs.«01_k».proof.Proof.Gen.ReferenceIdeal.Frame
public import Idealize.ShloMosaic.Lib.Claim
public import Idealize.ShloMosaic.Lib.StableHlo.RunRead

@[expose] public section

namespace Cert.ReferenceIdeal.Hand

open Idealize.ShloMosaic Idealize.ShloMosaic.TcCoe
open Idealize.SL Idealize.SL.Sem
open Cert.ReferenceIdeal Cert.ReferenceIdeal.Gen

noncomputable section

/-- The host operations after the region, in order. -/
abbrev ops : List (HloOp τ sig (Elt Ideal)) :=
  List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28]

/-- The softmax over the options as the host writes it, from the logits. -/
def soft (z : FVec Ideal S26x7 .f32) : FVec Ideal S26x7 .f32 :=
  let e := Host.exp (subf z (broadcastInDim S26x7 ![0, 1] bcast_S26x1_S26x7_0_1 (broadcastInDim S26x1 ![0] bcast_S26_S26x1_0
    (maximumf (broadcastInDim S26 ![] bcast_S_S26 (constant S_ .f32 0xFF800000#32))
      (Host.reduce FloatOps.maximumf z (constant S_ .f32 0xFF800000#32) reducesTo_S26x7_S26_d1 h_S_)))))
  Host.divf e (broadcastInDim S26x7 ![0, 1] bcast_S26x1_S26x7_0_1 (broadcastInDim S26x1 ![0] bcast_S26_S26x1_0
    (Host.reduceAdd e (constant S_ .f32 0x00000000#32) reducesTo_S26x7_S26_d1 h_S_)))

/-- One column of the weights, spread over the batch and the embedding. -/
def spread (p : FVec Ideal S26x1 .f32) : FVec Ideal S4096x26x128 .f32 :=
  broadcastInDim S4096x26x128 ![0, 1, 2] bcast_S1x26x1_S4096x26x128_0_1_2 (broadcastInDim S1x26x1 ![1] bcast_S26_S1x26x1_1
    (shapeCast S26 p shapeCasts_S26x1_S26))

/-- The weighted sum of the seven embeddings. -/
def mix (P : FVec Ideal S26x7 .f32) (e0 e1 e2 e3 e4 e5 e6 : FVec Ideal S4096x26x128 .f32) : FVec Ideal S4096x26x128 .f32 :=
  addf (addf (addf (addf (addf (addf
    (mulf (spread (extractStridedSlice S26x1 ![0, 0] P slices_S26x7_S26x1_0_0)) e0)
    (mulf (spread (extractStridedSlice S26x1 ![0, 1] P slices_S26x7_S26x1_0_1)) e1))
    (mulf (spread (extractStridedSlice S26x1 ![0, 2] P slices_S26x7_S26x1_0_2)) e2))
    (mulf (spread (extractStridedSlice S26x1 ![0, 3] P slices_S26x7_S26x1_0_3)) e3))
    (mulf (spread (extractStridedSlice S26x1 ![0, 4] P slices_S26x7_S26x1_0_4)) e4))
    (mulf (spread (extractStridedSlice S26x1 ![0, 5] P slices_S26x7_S26x1_0_5)) e5))
    (mulf (spread (extractStridedSlice S26x1 ![0, 6] P slices_S26x7_S26x1_0_6)) e6)

/-- The pooled result: the linear terms, the bias, and half the pairwise interaction. -/
def pool (a : FVec Ideal S4096x26x128 .f32) (lw : FVec Ideal S4096x26 .f32) (b : FVec Ideal S1 .f32) : FVec Ideal S4096 .f32 :=
  let s := Host.reduceAdd a (constant S_ .f32 0x00000000#32) reducesTo_S4096x26x128_S4096x128_d1 h_S_
  let q := Host.reduceAdd (mulf a a) (constant S_ .f32 0x00000000#32) reducesTo_S4096x26x128_S4096x128_d1 h_S_
  shapeCast S4096 (addf
    (addf (broadcastInDim S4096x1 ![0] bcast_S4096_S4096x1_0
        (Host.reduceAdd lw (constant S_ .f32 0x00000000#32) reducesTo_S4096x26_S4096_d1 h_S_))
      (broadcastInDim S4096x1 ![0, 1] bcast_S1x1_S4096x1_0_1 (broadcastInDim S1x1 ![1] bcast_S1_S1x1_1 b)))
    (mulf (broadcastInDim S4096x1 ![] bcast_S_S4096x1 (constant S_ .f32 0x3F000000#32))
      (broadcastInDim S4096x1 ![0] bcast_S4096_S4096x1_0
        (Host.reduceAdd (subf (mulf s s) q) (constant S_ .f32 0x00000000#32) reducesTo_S4096x128_S4096_d1 h_S_))))
    shapeCasts_S4096x1_S4096

variable (X : Valuation τ sig (Elt Ideal))

set_option maxHeartbeats 4000000 in
set_option maxRecDepth 100000 in
/-- The weights are the softmax of the logits. -/
theorem read_prob : (StableHlo.after ops X (Proc.devRef .tc main_v11) : FVec Ideal S26x7 .f32) = soft (X (Proc.devRef .tc main_v0)) := by
  after_reads_simp
  rfl

set_option maxHeartbeats 40000000 in
set_option maxRecDepth 100000 in
/-- The mixture is built from the weights and the seven embeddings. -/
theorem read_mix : (StableHlo.after ops X (Proc.devRef .tc main_v193) : FVec Ideal S4096x26x128 .f32)
    = mix (StableHlo.after ops X (Proc.devRef .tc main_v11)) (StableHlo.after ops X (Proc.devRef .tc main_v18)) (StableHlo.after ops X (Proc.devRef .tc main_v47))
      (StableHlo.after ops X (Proc.devRef .tc main_v75)) (StableHlo.after ops X (Proc.devRef .tc main_v103)) (StableHlo.after ops X (Proc.devRef .tc main_v131))
      (StableHlo.after ops X (Proc.devRef .tc main_v159)) (StableHlo.after ops X (Proc.devRef .tc main_v187)) := by
  after_reads_simp
  rfl

set_option maxHeartbeats 40000000 in
set_option maxRecDepth 100000 in
/-- The result is the pooling of the mixture, the gathered linear weights and the bias. -/
theorem read_out : (StableHlo.after ops X (Proc.devRef .tc main_v210) : FVec Ideal S4096 .f32)
    = pool (StableHlo.after ops X (Proc.devRef .tc main_v193)) (StableHlo.after ops X (Proc.devRef .tc main_v194))
      (X (Proc.devRef .tc main_arg6)) := by
  after_reads_simp
  rfl

end

end Cert.ReferenceIdeal.Hand
-- ==== Proof.Softmax.lean ====
module

public import proofs.«01_k».proof.Proof.Ref
public import proofs.«01_k».proof.Proof.Gen.KernelIdeal.Frame
public import proofs.«01_k».proof.Pre_largest_is_a_number
public import Idealize.ShloMosaic.Lib.Pointwise
public import Idealize.ShloMosaic.Lib.ReduceAll

@[expose] public section

namespace Cert.Proof

open Idealize.ShloMosaic Idealize.ShloMosaic.TcCoe
open Idealize.SL Idealize.SL.Sem

noncomputable section

/-- The word of minus infinity reads as `⊥`. -/
theorem negInf_bits : Ideal.ofBits .f32 0xFF800000#32 = ⊥ := by
  simp [Ideal.ofBits, Ideal.ieee]

/-- The word of infinity reads as `⊤`. -/
theorem posInf_bits : Ideal.ofBits .f32 0x7F800000#32 = ⊤ := by
  simp [Ideal.ofBits, Ideal.ieee]

/-- Division by one changes nothing. -/
theorem div_one' (x : EReal) : Ideal.div x 1 = x := by
  unfold Ideal.div
  rw [if_neg one_ne_zero, ← EReal.coe_one, ← EReal.coe_inv, inv_one, EReal.coe_one, mul_one]

/-- An exponential is not negative. -/
theorem exp_nonneg' (x : EReal) : 0 ≤ Ideal.exp x := by
  induction x with
  | bot => exact le_refl _
  | top => exact le_top
  | coe r => exact EReal.coe_nonneg.mpr (Real.exp_pos r).le

/-- The exponential of anything but `⊥` is not zero. -/
theorem exp_ne_zero' {x : EReal} (h : x ≠ ⊥) : Ideal.exp x ≠ 0 := by
  induction x with
  | bot => exact absurd rfl h
  | top => exact EReal.top_ne_zero
  | coe r => exact fun e => (Real.exp_pos r).ne' (EReal.coe_eq_zero.mp e)

/-- A difference is not `⊥` when the first term is not `⊥` and the second is not `⊤`. -/
theorem sub_ne_bot {x y : EReal} (hx : x ≠ ⊥) (hy : y ≠ ⊤) : x - y ≠ ⊥ := by
  rw [sub_eq_add_neg]
  intro e
  rcases EReal.add_eq_bot_iff.mp e with h | h
  · exact hx h
  · exact hy (EReal.neg_eq_bot_iff.mp h)

/-- The softmax weight of a term at `⊥` is zero when the largest term is not `⊤` and some term is not `⊥`. -/
theorem weight_zero {n : ℕ} (z : Fin n → EReal) (k : Fin n) (hk : z k = ⊥) (htop : ∀ j, z j < ⊤) (j : Fin n) (hj : z j ≠ ⊥) :
    Ideal.div (Ideal.exp (z k - Finset.univ.fold max ⊥ z)) (∑ i, Ideal.exp (z i - Finset.univ.fold max ⊥ z)) = 0 := by
  have hM : Finset.univ.fold max ⊥ z ≠ ⊤ := by
    have h : Finset.univ.sup z < ⊤ := (Finset.sup_lt_iff bot_lt_top).mpr fun i _ => htop i
    exact h.ne
  have hs : ∑ i, Ideal.exp (z i - Finset.univ.fold max ⊥ z) ≠ 0 := by
    intro e
    have h := (Finset.sum_eq_zero_iff_of_nonneg fun i _ => exp_nonneg' _).mp e j (Finset.mem_univ j)
    exact exp_ne_zero' (sub_ne_bot hj hM) h
  rw [hk, EReal.bot_sub, Ideal.exp_bot]
  unfold Ideal.div
  rw [if_neg hs, zero_mul]

/-- One logit: the parameter where the option is usable, `⊥` where it is not. -/
def logit (x : FVec Ideal Cert.KernelIdeal.S26x7 .f32) (f : Fin 26) (k : Fin 7) : EReal :=
  x (ix2 f k) + if 1 ≤ k.val ∧ k.val ≤ 5 then 0 else ⊥

/-- The weight of one option: its exponential over the sum of the seven. -/
def weight (x : FVec Ideal Cert.KernelIdeal.S26x7 .f32) (f : Fin 26) (k : Fin 7) : EReal :=
  Ideal.div (Ideal.exp (logit x f k - Finset.univ.fold max ⊥ (logit x f)))
    (∑ i, Ideal.exp (logit x f i - Finset.univ.fold max ⊥ (logit x f)))

/-- The kernel's mask, by range, is the usable options' mask. -/
theorem mask_range (k : Fin 7) : Scalar.select (IntOp.andi (IntOp.cmpi .sge (BitVec.ofNat 32 k.val) 1#32)
      (IntOp.cmpi .sle (BitVec.ofNat 32 k.val) 5#32)) (0 : EReal) ⊥ = if 1 ≤ k.val ∧ k.val ≤ 5 then 0 else ⊥ := by
  fin_cases k <;> rfl

/-- The reference's mask, option by option, is the usable options' mask. -/
theorem mask_each (k : Fin 7) : Scalar.select (IntOp.cmpi .eq (BitVec.ofNat 32 k.val) 5#32) (0 : EReal)
    (Scalar.select (IntOp.cmpi .eq (BitVec.ofNat 32 k.val) 4#32) 0 (Scalar.select (IntOp.cmpi .eq (BitVec.ofNat 32 k.val) 3#32) 0
    (Scalar.select (IntOp.cmpi .eq (BitVec.ofNat 32 k.val) 2#32) 0 (Scalar.select (IntOp.cmpi .eq (BitVec.ofNat 32 k.val) 1#32) 0 ⊥))))
    = if 1 ≤ k.val ∧ k.val ≤ 5 then 0 else ⊥ := by
  fin_cases k <;> rfl

/-- The kernel's weights. -/
theorem kernel_weight (x : FVec Ideal Cert.KernelIdeal.S26x7 .f32) (f : Fin 26) (k : Fin 7) :
    Cert.KernelIdeal.Gen.k0_pay2 (F := Ideal) x (ix2 f k) = weight x f k := by
  have hn : Named.named (F := Ideal) Cert.KernelIdeal.κ "mask" (φ := .f32) 3463342888#32 = (⊥ : EReal) := rfl
  pointwise [Cert.KernelIdeal.Gen.k0_pay2]
  simp only [hn, mask_range, div_one', negInf_bits]
  rfl

/-- The reference's logits. -/
theorem ref_logit (x : FVec Ideal Cert.ReferenceIdeal.S26x7 .f32) (f : Fin 26) (k : Fin 7) :
    Cert.ReferenceIdeal.Gen.k0_pay1 (F := Ideal) x (ix2 f k) = logit x f k := by
  have hn : Named.named (F := Ideal) Cert.ReferenceIdeal.κ "mask" (φ := .f32) 3463342888#32 = (⊥ : EReal) := rfl
  pointwise [Cert.ReferenceIdeal.Gen.k0_pay1]
  simp only [hn, mask_each, div_one']
  rfl

/-- The reference's weights. -/
theorem ref_weight (x : FVec Ideal Cert.ReferenceIdeal.S26x7 .f32) (f : Fin 26) (k : Fin 7) :
    Cert.ReferenceIdeal.Hand.soft (Cert.ReferenceIdeal.Gen.k0_pay1 (F := Ideal) x) (ix2 f k) = weight x f k := by
  pointwise [Cert.ReferenceIdeal.Hand.soft]
  simp only [ref_logit, negInf_bits, max_eq_right bot_le]
  rfl

/-- The side conditions of the precondition's function. -/
theorem preFacts : Cert.Pre_largest_is_a_number.Facts :=
  ⟨by decide, by decide, by decide, by decide, by decide⟩

/-- Under the precondition no usable parameter is `⊤`, and each field has a usable parameter that is not `⊥`. -/
theorem pre_field [Cert.Pre_largest_is_a_number.Facts] (a0 : IVec Cert.Pre_largest_is_a_number.S4096x26 32)
    (x : FVec Ideal Cert.Pre_largest_is_a_number.S26x7 .f32) (a2 : IVec Cert.Pre_largest_is_a_number.S7x104000x16 32)
    (a3 : FVec Ideal Cert.Pre_largest_is_a_number.S104000x128 .f32) (a4 : FVec Ideal Cert.Pre_largest_is_a_number.S7x16x2048x8 .f32)
    (a5 : FVec Ideal Cert.Pre_largest_is_a_number.S104000 .f32) (a6 : FVec Ideal Cert.Pre_largest_is_a_number.S1 .f32)
    (h : Cert.Pre_largest_is_a_number.fn (F := Ideal) a0 x a2 a3 a4 a5 a6 = fun _ => 1#1) (f : Fin 26) :
    (∀ k : Fin 5, x (ix2 f ⟨1 + k.val, by omega⟩) < ⊤) ∧ ∃ k : Fin 5, x (ix2 f ⟨1 + k.val, by omega⟩) ≠ ⊥ := by
  have h0 := congrFun h ix0
  dsimp only [Cert.Pre_largest_is_a_number.fn] at h0
  have h1 := Host.reduce_andi_all _ _ _ _ _ h0 (ix1 f)
  have hb : ∀ b : Bool, BitVec.ofBool b = 1#1 ↔ b = true := by decide
  pointwise at h1
  rw [negInf_bits, posInf_bits, IntOp.andi_eq_one, hb, hb, decide_eq_true_iff, decide_eq_true_iff] at h1
  obtain ⟨hlo, hhi⟩ := h1
  exact ⟨fun k => (Finset.sup_lt_iff bot_lt_top).mp hhi k (Finset.mem_univ k),
    (Finset.lt_sup_iff.mp hlo).imp fun k hk => hk.2.ne'⟩

/-- The options that the kernel leaves out have weight zero. -/
theorem weight_left_out (x : FVec Ideal Cert.KernelIdeal.S26x7 .f32) (f : Fin 26)
    (hx : (∀ k : Fin 5, x (ix2 f ⟨1 + k.val, by omega⟩) < ⊤) ∧ ∃ k : Fin 5, x (ix2 f ⟨1 + k.val, by omega⟩) ≠ ⊥)
    (k : Fin 7) (hk : ¬(1 ≤ k.val ∧ k.val ≤ 5)) : weight x f k = 0 := by
  have hout : ∀ j : Fin 7, ¬(1 ≤ j.val ∧ j.val ≤ 5) → logit x f j = ⊥ := fun j hj => by
    unfold logit; rw [if_neg hj, EReal.add_bot]
  have hin : ∀ j : Fin 7, 1 ≤ j.val ∧ j.val ≤ 5 → logit x f j = x (ix2 f j) := fun j hj => by
    unfold logit; rw [if_pos hj, add_zero]
  have hat : ∀ j : Fin 7, 1 ≤ j.val ∧ j.val ≤ 5 → ∃ i : Fin 5, j = ⟨1 + i.val, by omega⟩ := fun j hj =>
    ⟨⟨j.val - 1, by omega⟩, Fin.ext (by simp only; omega)⟩
  obtain ⟨htop, i, hi⟩ := hx
  refine weight_zero (logit x f) k (hout k hk) (fun j => ?_) ⟨1 + i.val, by omega⟩ ?_
  · by_cases hj : 1 ≤ j.val ∧ j.val ≤ 5
    · rw [hin j hj]
      obtain ⟨i', rfl⟩ := hat j hj
      exact htop i'
    · rw [hout j hj]; exact bot_lt_top
  · rw [hin _ (by constructor <;> simp only <;> omega)]; exact hi

end

end Cert.Proof
-- ==== Proof.Block.lean ====
module

public import proofs.«01_k».proof.Proof.Softmax
public import Idealize.ShloMosaic.Lib.Pipeline.ValueKit.Point

@[expose] public section

namespace Cert.Proof

open Idealize.ShloMosaic Idealize.ShloMosaic.TcCoe
open Idealize.SL Idealize.SL.Sem
open Cert.KernelIdeal Cert.KernelIdeal.Gen

noncomputable section

/-- One row's mixture of the five usable options' embeddings at field `f`, place `d`: `w` the weights, `e k` the row's embeddings. -/
def mixed (w : Fin 26 → Fin 7 → EReal) (e1 e2 e3 e4 e5 : Fin 26 → Fin 128 → EReal) (f : Fin 26) (d : Fin 128) : EReal :=
  w f 1 * e1 f d + w f 2 * e2 f d + w f 3 * e3 f d + w f 4 * e4 f d + w f 5 * e5 f d

/-- One row's result: half of the pairwise interaction of the mixture `a`, and the linear terms `l` with the bias `b`. -/
def score (a : Fin 26 → Fin 128 → EReal) (l : Fin 26 → EReal) (b : EReal) : EReal :=
  Ideal.ofBits .f32 0x3F000000#32 * ∑ d, ((∑ f, a f d) * ∑ f, a f d - ∑ f, a f d * a f d) + (∑ f, l f + b)

/-- What the kernel's body computes for one row of a block. -/
theorem block_apply (x0 : FVec Ideal S26x7 .f32) (e1 e2 e3 e4 e5 : FVec Ideal S128x26x128 .f32)
    (lw : FVec Ideal S128x26 .f32) (lb : FVec Ideal S1x1 .f32) (r : Fin 128) (z : Fin 1) :
    k0_pay1 (F := Ideal) (k0_pay2 x0) (k0_pay3 x0 e1 e2) (k0_pay4 x0) e3 e4 e5 lw lb (ix2 r z)
      = score (mixed (weight x0) (fun f d => e1 (ix3 r f d)) (fun f d => e2 (ix3 r f d)) (fun f d => e3 (ix3 r f d))
          (fun f d => e4 (ix3 r f d)) (fun f d => e5 (ix3 r f d))) (fun f => lw (ix2 r f)) (lb (ix2 0 0)) := by
  pointwise [k0_pay1, k0_pay3, k0_pay4]
  simp only [kernel_weight]
  rfl

/-- What the reference pools for one row. -/
theorem pool_apply (a : FVec Ideal Cert.ReferenceIdeal.S4096x26x128 .f32) (lw : FVec Ideal Cert.ReferenceIdeal.S4096x26 .f32)
    (b : FVec Ideal Cert.ReferenceIdeal.S1 .f32) (r : Fin 4096) :
    Cert.ReferenceIdeal.Hand.pool a lw b (ix1 r) = score (fun f d => a (ix3 r f d)) (fun f => lw (ix2 r f)) (b (ix1 0)) := by
  pointwise [Cert.ReferenceIdeal.Hand.pool]
  exact add_comm _ _

/-- The reference's mixture is the kernel's when the first and the last weight are zero. -/
theorem mix_apply (P : FVec Ideal Cert.ReferenceIdeal.S26x7 .f32) (e0 e1 e2 e3 e4 e5 e6 : FVec Ideal Cert.ReferenceIdeal.S4096x26x128 .f32)
    (r : Fin 4096) (f : Fin 26) (d : Fin 128) (w : Fin 26 → Fin 7 → EReal) (hP : ∀ f k, P (ix2 f k) = w f k) (h0 : w f 0 = 0) (h6 : w f 6 = 0) :
    Cert.ReferenceIdeal.Hand.mix P e0 e1 e2 e3 e4 e5 e6 (ix3 r f d)
      = mixed w (fun f d => e1 (ix3 r f d)) (fun f d => e2 (ix3 r f d)) (fun f d => e3 (ix3 r f d))
          (fun f d => e4 (ix3 r f d)) (fun f d => e5 (ix3 r f d)) f d := by
  pointwise [Cert.ReferenceIdeal.Hand.mix, Cert.ReferenceIdeal.Hand.spread]
  simp only [hP, h0, h6, zero_mul, zero_add, add_zero]
  rfl

variable (m : (ℓ : Loc nD τ sig) → Buf (Elt Ideal) ℓ)

/-- Point `t` writes block `t` of the result. -/
theorem idx8 : ∀ t : Fin cfg0.N, win0_8.index t = ![t.val, 0] := (by decide +kernel : ∀ t : Fin grid0.N, win0_8.index t = ![t.val, 0])
/-- Point `t` reads block `t` of the fifth embedding. -/
theorem idx7 : ∀ t : Fin cfg0.N, win0_7.index t = ![t.val, 0, 0] := (by decide +kernel : ∀ t : Fin grid0.N, win0_7.index t = ![t.val, 0, 0])
/-- Point `t` reads block `t` of the fourth embedding. -/
theorem idx6 : ∀ t : Fin cfg0.N, win0_6.index t = ![t.val, 0, 0] := (by decide +kernel : ∀ t : Fin grid0.N, win0_6.index t = ![t.val, 0, 0])
/-- Point `t` reads block `t` of the third embedding. -/
theorem idx5 : ∀ t : Fin cfg0.N, win0_5.index t = ![t.val, 0, 0] := (by decide +kernel : ∀ t : Fin grid0.N, win0_5.index t = ![t.val, 0, 0])
/-- Point `t` reads block `t` of the second embedding. -/
theorem idx4 : ∀ t : Fin cfg0.N, win0_4.index t = ![t.val, 0, 0] := (by decide +kernel : ∀ t : Fin grid0.N, win0_4.index t = ![t.val, 0, 0])
/-- Point `t` reads block `t` of the first embedding. -/
theorem idx3 : ∀ t : Fin cfg0.N, win0_3.index t = ![t.val, 0, 0] := (by decide +kernel : ∀ t : Fin grid0.N, win0_3.index t = ![t.val, 0, 0])
/-- Every point reads the whole bias. -/
theorem idx2 : ∀ t : Fin cfg0.N, win0_2.index t = ![0, 0] := (by decide +kernel : ∀ t : Fin grid0.N, win0_2.index t = ![0, 0])
/-- Point `t` reads block `t` of the linear terms. -/
theorem idx1 : ∀ t : Fin cfg0.N, win0_1.index t = ![t.val, 0] := (by decide +kernel : ∀ t : Fin grid0.N, win0_1.index t = ![t.val, 0])
/-- Every point reads all the parameters. -/
theorem idx0 : ∀ t : Fin cfg0.N, win0_0.index t = ![0, 0] := (by decide +kernel : ∀ t : Fin grid0.N, win0_0.index t = ![0, 0])

/-- An element of window 3's block at point `t` is its array's element, `t` blocks down. -/
theorem read3 (A : FVec Ideal S4096x26x128 .f32) (t : Fin cfg0.N) (r : Fin 128) (f : Fin 26) (d : Fin 128) (n : Fin 4096)
    (hn : n.val = t.val * 128 + r.val) : ((cfg0.win 3).blk t).view.read (Elt Ideal) A (ix3 r f d) = A (ix3 n f d) := by
  blk_ext [idx3 t]

/-- An element of window 4's block at point `t` is its array's element, `t` blocks down. -/
theorem read4 (A : FVec Ideal S4096x26x128 .f32) (t : Fin cfg0.N) (r : Fin 128) (f : Fin 26) (d : Fin 128) (n : Fin 4096)
    (hn : n.val = t.val * 128 + r.val) : ((cfg0.win 4).blk t).view.read (Elt Ideal) A (ix3 r f d) = A (ix3 n f d) := by
  blk_ext [idx4 t]

/-- An element of window 5's block at point `t` is its array's element, `t` blocks down. -/
theorem read5 (A : FVec Ideal S4096x26x128 .f32) (t : Fin cfg0.N) (r : Fin 128) (f : Fin 26) (d : Fin 128) (n : Fin 4096)
    (hn : n.val = t.val * 128 + r.val) : ((cfg0.win 5).blk t).view.read (Elt Ideal) A (ix3 r f d) = A (ix3 n f d) := by
  blk_ext [idx5 t]

/-- An element of window 6's block at point `t` is its array's element, `t` blocks down. -/
theorem read6 (A : FVec Ideal S4096x26x128 .f32) (t : Fin cfg0.N) (r : Fin 128) (f : Fin 26) (d : Fin 128) (n : Fin 4096)
    (hn : n.val = t.val * 128 + r.val) : ((cfg0.win 6).blk t).view.read (Elt Ideal) A (ix3 r f d) = A (ix3 n f d) := by
  blk_ext [idx6 t]

/-- An element of window 7's block at point `t` is its array's element, `t` blocks down. -/
theorem read7 (A : FVec Ideal S4096x26x128 .f32) (t : Fin cfg0.N) (r : Fin 128) (f : Fin 26) (d : Fin 128) (n : Fin 4096)
    (hn : n.val = t.val * 128 + r.val) : ((cfg0.win 7).blk t).view.read (Elt Ideal) A (ix3 r f d) = A (ix3 n f d) := by
  blk_ext [idx7 t]

/-- The same of the linear terms' window. -/
theorem read1 (A : FVec Ideal S4096x26 .f32) (t : Fin cfg0.N) (r : Fin 128) (f : Fin 26) (n : Fin 4096)
    (hn : n.val = t.val * 128 + r.val) : ((cfg0.win 1).blk t).view.read (Elt Ideal) A (ix2 r f) = A (ix2 n f) := by
  blk_ext [idx1 t]

/-- The bias is read whole. -/
theorem read2 (A : FVec Ideal S1x1 .f32) (t : Fin cfg0.N) : ((cfg0.win 2).blk t).view.read (Elt Ideal) A (ix2 0 0) = A (ix2 0 0) := by
  blk_ext [idx2 t]

/-- The parameters are read whole. -/
theorem read0 (A : FVec Ideal S26x7 .f32) (t : Fin cfg0.N) : ((cfg0.win 0).blk t).view.read (Elt Ideal) A = A := by
  funext y
  obtain ⟨f, k, rfl⟩ : ∃ (f : Fin 26) (k : Fin 7), y = ix2 f k := ⟨y 0, y 1, eq_ix2 y⟩
  blk_ext [idx0 t]

/-- The rows of the kernel's result, from the contents at the region's entry. -/
def rows (c : Dev nD) (n : Fin 4096) : EReal :=
  score (mixed (weight (V m c main_arg1)) (fun f d => V m c main_call0_v29 (ix3 n f d)) (fun f d => V m c main_call0_v51 (ix3 n f d))
    (fun f d => V m c main_call0_v73 (ix3 n f d)) (fun f d => V m c main_call0_v95 (ix3 n f d)) (fun f d => V m c main_call0_v117 (ix3 n f d)))
    (fun f => V m c main_call0_v118 (ix2 n f)) (V m c main_call0_v119 (ix2 0 0))

/-- The kernel's array after the last grid point. -/
theorem final (c : Dev nD) : (dats m 0 c).arrAt 8 cfg0.N = fun i => rows m c (i 0) := by
  refine (dats m 0 c).arrAt_eq_of_covers 8 _ (by decide +kernel) fun t hf y => ?_
  blk_simp
  rw [after0_8]
  frame_out
  obtain ⟨r, z, rfl⟩ : ∃ (r : Fin 128) (z : Fin 1), y = ix2 r z := ⟨y 0, y 1, eq_ix2 y⟩
  obtain ⟨n, hn⟩ : ∃ n : Fin 4096, n = (((View.whole main_call0_v120).slice (win0_8.rect t)).emb (ix2 r z) 0 : Fin 4096) := ⟨_, rfl⟩
  have hv : n.val = t.val * 128 + r.val := by
    rw [hn]
    blk_simp [idx8 t]
  rw [show (((View.whole main_call0_v120).slice (win0_8.rect t)).emb (ix2 r z) 0 : Fin 4096) = n from hn.symm, block_apply]
  have h3 : ∀ f d, iblk m c 3 t (ix3 r f d) = V m c main_call0_v29 (ix3 n f d) := fun f d => read3 _ t r f d n hv
  have h4 : ∀ f d, iblk m c 4 t (ix3 r f d) = V m c main_call0_v51 (ix3 n f d) := fun f d => read4 _ t r f d n hv
  have h5 : ∀ f d, iblk m c 5 t (ix3 r f d) = V m c main_call0_v73 (ix3 n f d) := fun f d => read5 _ t r f d n hv
  have h6 : ∀ f d, iblk m c 6 t (ix3 r f d) = V m c main_call0_v95 (ix3 n f d) := fun f d => read6 _ t r f d n hv
  have h7 : ∀ f d, iblk m c 7 t (ix3 r f d) = V m c main_call0_v117 (ix3 n f d) := fun f d => read7 _ t r f d n hv
  have h1 : ∀ f, iblk m c 1 t (ix2 r f) = V m c main_call0_v118 (ix2 n f) := fun f => read1 _ t r f n hv
  have h2 : iblk m c 2 t (ix2 0 0) = V m c main_call0_v119 (ix2 0 0) := read2 _ t
  have h0 : iblk m c 0 t = V m c main_arg1 := read0 _ t
  unfold rows
  simp only [h0, h1, h2, h3, h4, h5, h6, h7]

end

end Cert.Proof
-- ==== Proof.Reads.lean ====
module

public import proofs.«01_k».proof.Proof.Ref
public import proofs.«01_k».proof.Proof.Gen.KernelIdeal.Frame
public import Idealize.ShloMosaic.Lib.Claim
public import Idealize.ShloMosaic.Lib.StableHlo.RunRead

@[expose] public section

namespace Cert.Proof

open Idealize.ShloMosaic Idealize.ShloMosaic.TcCoe
open Idealize.SL Idealize.SL.Sem

noncomputable section

/-- The kernel's host operations before the region, in order. -/
abbrev kerOps : List (HloOp Cert.KernelIdeal.τ Cert.KernelIdeal.sig (Elt Ideal)) :=
  List.flatten [Cert.KernelIdeal.Gen.hostOps0]

/-- A codebook place and a code side by side: the pair of indices of one gather. -/
def catIdx (a b : IVec Cert.KernelIdeal.S4096x26x16x1 32) : IVec Cert.KernelIdeal.S4096x26x16x2 32 :=
  concatenate Cert.KernelIdeal.S4096x26x16x2 3 [⟨Cert.KernelIdeal.S4096x26x16x1, a⟩, ⟨Cert.KernelIdeal.S4096x26x16x1, b⟩]
    Cert.KernelIdeal.Gen.concatenates_S4096x26x16x1_S4096x26x16x1_S4096x26x16x2_d3

/-- The kernel's text of `catIdx`. -/
theorem catK (a b : IVec Cert.KernelIdeal.S4096x26x16x1 32) :
    concatenate Cert.KernelIdeal.S4096x26x16x2 3 [⟨Cert.KernelIdeal.S4096x26x16x1, a⟩, ⟨Cert.KernelIdeal.S4096x26x16x1, b⟩]
      Cert.KernelIdeal.Gen.concatenates_S4096x26x16x1_S4096x26x16x1_S4096x26x16x2_d3 = catIdx a b := rfl

/-- The reference's text of `catIdx`. -/
theorem catR (a b : IVec Cert.ReferenceIdeal.S4096x26x16x1 32) :
    concatenate Cert.ReferenceIdeal.S4096x26x16x2 3 [⟨Cert.ReferenceIdeal.S4096x26x16x1, a⟩, ⟨Cert.ReferenceIdeal.S4096x26x16x1, b⟩]
      Cert.ReferenceIdeal.Gen.concatenates_S4096x26x16x1_S4096x26x16x1_S4096x26x16x2_d3 = catIdx a b := rfl

variable (Y : Valuation Cert.KernelIdeal.τ Cert.KernelIdeal.sig (Elt Ideal))
  (X : Valuation Cert.ReferenceIdeal.τ Cert.ReferenceIdeal.sig (Elt Ideal))

set_option maxHeartbeats 4000000 in
set_option maxRecDepth 100000 in
/-- Both programs gather the same linear terms from the same indices. -/
theorem lin_eq
    (h0 : (Y (Proc.devRef .tc Cert.KernelIdeal.main_arg0) : IVec Cert.KernelIdeal.S4096x26 32) = X (Proc.devRef .tc Cert.ReferenceIdeal.main_arg0))
    (h5 : (Y (Proc.devRef .tc Cert.KernelIdeal.main_arg5) : FVec Ideal Cert.KernelIdeal.S104000 .f32) = X (Proc.devRef .tc Cert.ReferenceIdeal.main_arg5)) :
    (StableHlo.after kerOps Y (Proc.devRef .tc Cert.KernelIdeal.main_call0_v118) : FVec Ideal Cert.KernelIdeal.S4096x26 .f32)
      = StableHlo.after Cert.ReferenceIdeal.Hand.ops X (Proc.devRef .tc Cert.ReferenceIdeal.main_v194) := by
  after_reads_simp [StableHlo.TRef.ofBuf_toBuf, h0, h5]
  rfl

set_option maxHeartbeats 4000000 in
set_option maxRecDepth 100000 in
/-- The kernel reads the bias as one row of one column. -/
theorem bias_eq : (StableHlo.after kerOps Y (Proc.devRef .tc Cert.KernelIdeal.main_call0_v119) : FVec Ideal Cert.KernelIdeal.S1x1 .f32)
    = shapeCast Cert.KernelIdeal.S1x1 (Y (Proc.devRef .tc Cert.KernelIdeal.main_arg6)) Cert.KernelIdeal.Gen.shapeCasts_S1_S1x1 := by
  after_reads_simp
  rfl

set_option maxHeartbeats 4000000 in
set_option maxRecDepth 100000 in
/-- Both programs gather the same embeddings for option 1. -/
theorem emb1_eq
    (h0 : (Y (Proc.devRef .tc Cert.KernelIdeal.main_arg0) : IVec Cert.KernelIdeal.S4096x26 32) = X (Proc.devRef .tc Cert.ReferenceIdeal.main_arg0))
    (h2 : (Y (Proc.devRef .tc Cert.KernelIdeal.main_arg2) : IVec Cert.KernelIdeal.S7x104000x16 32) = X (Proc.devRef .tc Cert.ReferenceIdeal.main_arg2))
    (h4 : (Y (Proc.devRef .tc Cert.KernelIdeal.main_arg4) : FVec Ideal Cert.KernelIdeal.S7x16x2048x8 .f32) = X (Proc.devRef .tc Cert.ReferenceIdeal.main_arg4)) :
    (StableHlo.after kerOps Y (Proc.devRef .tc Cert.KernelIdeal.main_call0_v29) : FVec Ideal Cert.KernelIdeal.S4096x26x128 .f32)
      = StableHlo.after Cert.ReferenceIdeal.Hand.ops X (Proc.devRef .tc Cert.ReferenceIdeal.main_v47) := by
  after_reads_simp [catK, catR, StableHlo.TRef.ofBuf_toBuf, h0, h2, h4]
  rfl

set_option maxHeartbeats 4000000 in
set_option maxRecDepth 100000 in
/-- Both programs gather the same embeddings for option 2. -/
theorem emb2_eq
    (h0 : (Y (Proc.devRef .tc Cert.KernelIdeal.main_arg0) : IVec Cert.KernelIdeal.S4096x26 32) = X (Proc.devRef .tc Cert.ReferenceIdeal.main_arg0))
    (h2 : (Y (Proc.devRef .tc Cert.KernelIdeal.main_arg2) : IVec Cert.KernelIdeal.S7x104000x16 32) = X (Proc.devRef .tc Cert.ReferenceIdeal.main_arg2))
    (h4 : (Y (Proc.devRef .tc Cert.KernelIdeal.main_arg4) : FVec Ideal Cert.KernelIdeal.S7x16x2048x8 .f32) = X (Proc.devRef .tc Cert.ReferenceIdeal.main_arg4)) :
    (StableHlo.after kerOps Y (Proc.devRef .tc Cert.KernelIdeal.main_call0_v51) : FVec Ideal Cert.KernelIdeal.S4096x26x128 .f32)
      = StableHlo.after Cert.ReferenceIdeal.Hand.ops X (Proc.devRef .tc Cert.ReferenceIdeal.main_v75) := by
  after_reads_simp [catK, catR, StableHlo.TRef.ofBuf_toBuf, h0, h2, h4]
  rfl

set_option maxHeartbeats 4000000 in
set_option maxRecDepth 100000 in
/-- Both programs gather the same embeddings for option 3. -/
theorem emb3_eq
    (h0 : (Y (Proc.devRef .tc Cert.KernelIdeal.main_arg0) : IVec Cert.KernelIdeal.S4096x26 32) = X (Proc.devRef .tc Cert.ReferenceIdeal.main_arg0))
    (h2 : (Y (Proc.devRef .tc Cert.KernelIdeal.main_arg2) : IVec Cert.KernelIdeal.S7x104000x16 32) = X (Proc.devRef .tc Cert.ReferenceIdeal.main_arg2))
    (h4 : (Y (Proc.devRef .tc Cert.KernelIdeal.main_arg4) : FVec Ideal Cert.KernelIdeal.S7x16x2048x8 .f32) = X (Proc.devRef .tc Cert.ReferenceIdeal.main_arg4)) :
    (StableHlo.after kerOps Y (Proc.devRef .tc Cert.KernelIdeal.main_call0_v73) : FVec Ideal Cert.KernelIdeal.S4096x26x128 .f32)
      = StableHlo.after Cert.ReferenceIdeal.Hand.ops X (Proc.devRef .tc Cert.ReferenceIdeal.main_v103) := by
  after_reads_simp [catK, catR, StableHlo.TRef.ofBuf_toBuf, h0, h2, h4]
  rfl

set_option maxHeartbeats 4000000 in
set_option maxRecDepth 100000 in
/-- Both programs gather the same embeddings for option 4. -/
theorem emb4_eq
    (h0 : (Y (Proc.devRef .tc Cert.KernelIdeal.main_arg0) : IVec Cert.KernelIdeal.S4096x26 32) = X (Proc.devRef .tc Cert.ReferenceIdeal.main_arg0))
    (h2 : (Y (Proc.devRef .tc Cert.KernelIdeal.main_arg2) : IVec Cert.KernelIdeal.S7x104000x16 32) = X (Proc.devRef .tc Cert.ReferenceIdeal.main_arg2))
    (h4 : (Y (Proc.devRef .tc Cert.KernelIdeal.main_arg4) : FVec Ideal Cert.KernelIdeal.S7x16x2048x8 .f32) = X (Proc.devRef .tc Cert.ReferenceIdeal.main_arg4)) :
    (StableHlo.after kerOps Y (Proc.devRef .tc Cert.KernelIdeal.main_call0_v95) : FVec Ideal Cert.KernelIdeal.S4096x26x128 .f32)
      = StableHlo.after Cert.ReferenceIdeal.Hand.ops X (Proc.devRef .tc Cert.ReferenceIdeal.main_v131) := by
  after_reads_simp [catK, catR, StableHlo.TRef.ofBuf_toBuf, h0, h2, h4]
  rfl

set_option maxHeartbeats 4000000 in
set_option maxRecDepth 100000 in
/-- Both programs gather the same embeddings for option 5. -/
theorem emb5_eq
    (h0 : (Y (Proc.devRef .tc Cert.KernelIdeal.main_arg0) : IVec Cert.KernelIdeal.S4096x26 32) = X (Proc.devRef .tc Cert.ReferenceIdeal.main_arg0))
    (h2 : (Y (Proc.devRef .tc Cert.KernelIdeal.main_arg2) : IVec Cert.KernelIdeal.S7x104000x16 32) = X (Proc.devRef .tc Cert.ReferenceIdeal.main_arg2))
    (h4 : (Y (Proc.devRef .tc Cert.KernelIdeal.main_arg4) : FVec Ideal Cert.KernelIdeal.S7x16x2048x8 .f32) = X (Proc.devRef .tc Cert.ReferenceIdeal.main_arg4)) :
    (StableHlo.after kerOps Y (Proc.devRef .tc Cert.KernelIdeal.main_call0_v117) : FVec Ideal Cert.KernelIdeal.S4096x26x128 .f32)
      = StableHlo.after Cert.ReferenceIdeal.Hand.ops X (Proc.devRef .tc Cert.ReferenceIdeal.main_v159) := by
  after_reads_simp [catK, catR, StableHlo.TRef.ofBuf_toBuf, h0, h2, h4]
  rfl

end

end Cert.Proof
-- ==== Proof.Runs.lean ====
module

public import proofs.«01_k».proof.Proof.Block
public import proofs.«01_k».proof.Proof.Reads
public import Idealize.ShloMosaic.Lib.Pipeline.ValueKit.Point

@[expose] public section

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The windows' arrays are nine buffers. -/
theorem arr_inj : Function.Injective (Pipeline.arrRef (spec0 : Fin cfg0.W → Pipeline.WinSpec sig cfg0.grid.rank)) := by decide

/-- The result buffer after the run: the column of rows as one list. -/
theorem out_eq (c : Dev nD) :
    (Pipeline.afterTail₀ cfgs (dats m) 0 (V0 m) [hostOps1] c main_v0 : FVec Ideal S4096 .f32) = fun i => Cert.Proof.rows m c (i 0) := by
  have h := (Pipeline.withArrays_arr (cfgs 0).spec arr_inj c (V0 m c) (fun w => (dats m 0 c).arrAt w (cfgs 0).N) 8).trans (Cert.Proof.final m c)
  unfold Pipeline.afterTail₀
  generalize Pipeline.withArrays (cfgs 0).spec c (V0 m c) (fun w => (dats m 0 c).arrAt w (cfgs 0).N) = Z at h ⊢
  have h' : (Z (Proc.devRef .tc main_call0_v120) : FVec Ideal S4096x1 .f32) = fun i => Cert.Proof.rows m c (i 0) := h
  after_reads_simp
  rw [h']
  funext i
  obtain ⟨n, rfl⟩ : ∃ n : Fin 4096, i = ix1 n := ⟨i 0, eq_ix1 i⟩
  show shapeCast S4096 (fun i : S4096x1.Idx => Cert.Proof.rows m c (i 0)) shapeCasts_S4096x1_S4096 (ix1 n) = Cert.Proof.rows m c n
  pointwise

end Cert.KernelIdeal.Hand

namespace Cert.ReferenceIdeal.Hand

open Idealize.ShloMosaic Idealize.ShloMosaic.TcCoe
open Idealize.SL Idealize.SL.Sem
open Cert.ReferenceIdeal Cert.ReferenceIdeal.Gen

variable (m : (ℓ : Loc nD τ sig) → Buf (Elt Ideal) ℓ)

/-- The two windows' arrays are two buffers. -/
theorem arr_inj : Function.Injective (Pipeline.arrRef (spec0 : Fin cfg0.W → Pipeline.WinSpec sig cfg0.grid.rank)) := by decide

/-- The one point reads from the origin. -/
theorem idx0 : ∀ t : Fin cfg0.N, win0_0.index t = ![0, 0] := (by decide +kernel : ∀ t : Fin grid0.N, win0_0.index t = ![0, 0])
/-- The one point writes from the origin. -/
theorem idx1 : ∀ t : Fin cfg0.N, win0_1.index t = ![0, 0] := (by decide +kernel : ∀ t : Fin grid0.N, win0_1.index t = ![0, 0])

/-- The parameters are read whole. -/
theorem read0 (A : FVec Ideal S26x7 .f32) (t : Fin cfg0.N) : ((cfg0.win 0).blk t).view.read (Elt Ideal) A = A := by
  funext y
  obtain ⟨f, k, rfl⟩ : ∃ (f : Fin 26) (k : Fin 7), y = ix2 f k := ⟨y 0, y 1, eq_ix2 y⟩
  blk_ext [idx0 t]

/-- The logits are written whole. -/
theorem read1 (A : FVec Ideal S26x7 .f32) (t : Fin cfg0.N) : ((cfg0.win 1).blk t).view.read (Elt Ideal) A = A := by
  funext y
  obtain ⟨f, k, rfl⟩ : ∃ (f : Fin 26) (k : Fin 7), y = ix2 f k := ⟨y 0, y 1, eq_ix2 y⟩
  blk_ext [idx1 t]

/-- The array of logits after the region. -/
theorem final (c : Dev nD) : (dats m 0 c).arrAt 1 cfg0.N = k0_pay1 (F := Ideal) (m ((c : Thread nD τ).loc main_arg1)) := by
  refine (dats m 0 c).arrAt_eq_of_covers 1 _ (by decide +kernel) fun t hf y => ?_
  blk_simp
  rw [after0_1]
  frame_out
  have h0 : iblk m c 0 t = m ((c : Thread nD τ).loc main_arg1) := read0 _ t
  rw [h0]
  exact (congrFun (read1 (k0_pay1 (F := Ideal) (m ((c : Thread nD τ).loc main_arg1))) t) y).symm

/-- What the host operations read: the arrays as the region leaves them. -/
def found (c : Dev nD) : Valuation τ sig (Elt Ideal) :=
  Pipeline.withArrays (cfgs 0).spec c (V0 m c) fun w => (dats m 0 c).arrAt w (cfgs 0).N

/-- They find the logits. -/
theorem found_v0 (c : Dev nD) : found m c (Proc.devRef .tc main_v0) = k0_pay1 (F := Ideal) (m ((c : Thread nD τ).loc main_arg1)) :=
  (Pipeline.withArrays_arr (cfgs 0).spec arr_inj c (V0 m c) (fun w => (dats m 0 c).arrAt w (cfgs 0).N) 1).trans (final m c)

/-- They find the indices as launched. -/
theorem found_arg0 (c : Dev nD) : found m c (Proc.devRef .tc main_arg0) = m ((c : Thread nD τ).loc main_arg0) :=
  (Pipeline.withArrays_of_ne _ c (V0 m c) _ main_arg0 (by exact (by decide : ∀ w, Pipeline.arrRef spec0 w ≠ main_arg0))).trans rfl

/-- They find the codes as launched. -/
theorem found_arg2 (c : Dev nD) : found m c (Proc.devRef .tc main_arg2) = m ((c : Thread nD τ).loc main_arg2) :=
  (Pipeline.withArrays_of_ne _ c (V0 m c) _ main_arg2 (by exact (by decide : ∀ w, Pipeline.arrRef spec0 w ≠ main_arg2))).trans rfl

/-- They find the codebooks as launched. -/
theorem found_arg4 (c : Dev nD) : found m c (Proc.devRef .tc main_arg4) = m ((c : Thread nD τ).loc main_arg4) :=
  (Pipeline.withArrays_of_ne _ c (V0 m c) _ main_arg4 (by exact (by decide : ∀ w, Pipeline.arrRef spec0 w ≠ main_arg4))).trans rfl

/-- They find the linear weights as launched. -/
theorem found_arg5 (c : Dev nD) : found m c (Proc.devRef .tc main_arg5) = m ((c : Thread nD τ).loc main_arg5) :=
  (Pipeline.withArrays_of_ne _ c (V0 m c) _ main_arg5 (by exact (by decide : ∀ w, Pipeline.arrRef spec0 w ≠ main_arg5))).trans rfl

/-- They find the bias as launched. -/
theorem found_arg6 (c : Dev nD) : found m c (Proc.devRef .tc main_arg6) = m ((c : Thread nD τ).loc main_arg6) :=
  (Pipeline.withArrays_of_ne _ c (V0 m c) _ main_arg6 (by exact (by decide : ∀ w, Pipeline.arrRef spec0 w ≠ main_arg6))).trans rfl

/-- The result buffer after the run. -/
theorem out_eq (c : Dev nD) :
    (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28] c main_v210) = StableHlo.after ops (found m c) (Proc.devRef .tc main_v210) := rfl

end Cert.ReferenceIdeal.Hand
-- ==== Proof.Equation.lean ====
module

public import proofs.«01_k».proof.Defs
public import proofs.«01_k».proof.Proof.Runs

@[expose] public section

noncomputable section

namespace Cert.Proof

open Idealize.ShloMosaic Idealize.ShloMosaic.TcCoe
open Idealize.SL Idealize.SL.Sem

/-- The bias of one row and one column is the bias. -/
theorem bias_apply (b : FVec Ideal Cert.KernelIdeal.S1 .f32) :
    shapeCast Cert.KernelIdeal.S1x1 b Cert.KernelIdeal.Gen.shapeCasts_S1_S1x1 (ix2 0 0) = b (ix1 0) := by
  pointwise

variable (m : (ℓ : Loc Cert.KernelIdeal.nD Cert.KernelIdeal.τ Cert.KernelIdeal.sig) → Buf (Elt Ideal) ℓ)
  (X : Valuation Cert.ReferenceIdeal.τ Cert.ReferenceIdeal.sig (Elt Ideal)) (c : Dev Cert.KernelIdeal.nD)

/-- From the kernel's arguments and the kernel's logits, the reference's host operations leave the kernel's rows:
    the embeddings of the five usable options, the linear terms and the bias are the same, and the two other options
    have weight zero. -/
theorem ref_rows
    (x : FVec Ideal Cert.KernelIdeal.S26x7 .f32) (h1 : m ((c : Thread Cert.KernelIdeal.nD Cert.KernelIdeal.τ).loc Cert.KernelIdeal.main_arg1) = x)
    (hx : ∀ f : Fin 26, (∀ k : Fin 5, x (ix2 f ⟨1 + k.val, by omega⟩) < ⊤) ∧ ∃ k : Fin 5, x (ix2 f ⟨1 + k.val, by omega⟩) ≠ ⊥)
    (hv : X (Proc.devRef .tc Cert.ReferenceIdeal.main_v0) = Cert.ReferenceIdeal.Gen.k0_pay1 (F := Ideal) x)
    (h0 : X (Proc.devRef .tc Cert.ReferenceIdeal.main_arg0) = m ((c : Thread Cert.KernelIdeal.nD Cert.KernelIdeal.τ).loc Cert.KernelIdeal.main_arg0))
    (h2 : X (Proc.devRef .tc Cert.ReferenceIdeal.main_arg2) = m ((c : Thread Cert.KernelIdeal.nD Cert.KernelIdeal.τ).loc Cert.KernelIdeal.main_arg2))
    (h4 : X (Proc.devRef .tc Cert.ReferenceIdeal.main_arg4) = m ((c : Thread Cert.KernelIdeal.nD Cert.KernelIdeal.τ).loc Cert.KernelIdeal.main_arg4))
    (h5 : X (Proc.devRef .tc Cert.ReferenceIdeal.main_arg5) = m ((c : Thread Cert.KernelIdeal.nD Cert.KernelIdeal.τ).loc Cert.KernelIdeal.main_arg5))
    (h6 : X (Proc.devRef .tc Cert.ReferenceIdeal.main_arg6) = m ((c : Thread Cert.KernelIdeal.nD Cert.KernelIdeal.τ).loc Cert.KernelIdeal.main_arg6)) :
    (StableHlo.after Cert.ReferenceIdeal.Hand.ops X (Proc.devRef .tc Cert.ReferenceIdeal.main_v210) : FVec Ideal Cert.ReferenceIdeal.S4096 .f32)
      = fun i => rows m c (i 0) := by
  have e1 := emb1_eq (fun b => m (c, b)) X h0.symm h2.symm h4.symm
  have e2 := emb2_eq (fun b => m (c, b)) X h0.symm h2.symm h4.symm
  have e3 := emb3_eq (fun b => m (c, b)) X h0.symm h2.symm h4.symm
  have e4 := emb4_eq (fun b => m (c, b)) X h0.symm h2.symm h4.symm
  have e5 := emb5_eq (fun b => m (c, b)) X h0.symm h2.symm h4.symm
  have el := lin_eq (fun b => m (c, b)) X h0.symm h5.symm
  have eb := congrFun (bias_eq (fun b => m (c, b))) (ix2 0 0)
  rw [bias_apply] at eb
  have hP : ∀ f k, (StableHlo.after Cert.ReferenceIdeal.Hand.ops X (Proc.devRef .tc Cert.ReferenceIdeal.main_v11) : FVec Ideal Cert.ReferenceIdeal.S26x7 .f32) (ix2 f k)
      = weight x f k := fun f k => by
    rw [Cert.ReferenceIdeal.Hand.read_prob, hv]
    exact ref_weight _ f k
  funext i
  obtain ⟨n, rfl⟩ : ∃ n : Fin 4096, i = ix1 n := ⟨i 0, eq_ix1 i⟩
  rw [Cert.ReferenceIdeal.Hand.read_out, pool_apply]
  have hmix := fun f d => (congrFun (Cert.ReferenceIdeal.Hand.read_mix X) (ix3 n f d)).trans
    (mix_apply _ _ _ _ _ _ _ _ n f d _ hP (weight_left_out _ f (hx f) 0 (by decide)) (weight_left_out _ f (hx f) 6 (by decide)))
  simp only [hmix]
  show _ = rows m c n
  unfold rows Cert.KernelIdeal.Gen.V
  rw [show Cert.KernelIdeal.Gen.V0 m c = StableHlo.after kerOps (fun b => m (c, b)) from rfl, e1, e2, e3, e4, e5, el, eb, h6]
  rw [show StableHlo.after kerOps (fun b => m (c, b)) (Proc.devRef .tc Cert.KernelIdeal.main_arg1) = x from
    (Cert.KernelIdeal.Gen.V_main_arg1 m c).trans h1]

/-- The kernel and the reference, idealized, compute the same result. -/
theorem equation [hPre : Cert.Pre_largest_is_a_number.Facts] :
    letI := Cert.KernelIdeal.Gen.facts; letI := Cert.ReferenceIdeal.Gen.facts
    Cert.algebraic_KernelIdeal_ReferenceIdeal_pre_largest_is_a_number := by
  intro m g m' g' hpre harg
  refine ⟨fun c => (fun i => rows m c (i 0) : FVec Ideal Cert.KernelIdeal.S4096 .f32), ?_, ?_⟩
  · refine (θ_run _ _ _).mono (fun r h c => ⟨?_, h.1 c⟩)
      (θ_run_and (Cert.KernelIdeal.Gen.unchanged m g) (Cert.KernelIdeal.Gen.run_main m g))
    exact (h.2.rest_eq c Cert.KernelIdeal.main_v0 (Pipeline.mem_restRefs_of Cert.KernelIdeal.main_v0 (by decide) (by decide))).trans
      (Cert.KernelIdeal.Hand.out_eq m c)
  · refine (θ_run _ _ _).mono (fun r h c => ⟨?_, h.1 c⟩)
      (θ_run_and (Cert.ReferenceIdeal.Gen.unchanged m' g') (Cert.ReferenceIdeal.Gen.run_main m' g'))
    obtain ⟨a0, a1, a2, a3, a4, a5, a6⟩ := harg c
    refine (h.2.rest_eq c Cert.ReferenceIdeal.main_v210 (Pipeline.mem_restRefs_of Cert.ReferenceIdeal.main_v210 (by decide) (by decide))).trans
      ((Cert.ReferenceIdeal.Hand.out_eq m' c).trans ?_)
    exact ref_rows m (Cert.ReferenceIdeal.Hand.found m' c) c _ rfl (fun f => pre_field _ _ _ _ _ _ _ (hpre c) f)
      ((Cert.ReferenceIdeal.Hand.found_v0 m' c).trans (congrArg (Cert.ReferenceIdeal.Gen.k0_pay1 (F := Ideal)) a1))
      ((Cert.ReferenceIdeal.Hand.found_arg0 m' c).trans a0) ((Cert.ReferenceIdeal.Hand.found_arg2 m' c).trans a2)
      ((Cert.ReferenceIdeal.Hand.found_arg4 m' c).trans a4) ((Cert.ReferenceIdeal.Hand.found_arg5 m' c).trans a5)
      ((Cert.ReferenceIdeal.Hand.found_arg6 m' c).trans a6)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim made of the kernel. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    IdealRules.named_const.statement Cert.KernelIdeal.κ "mask" .f32 0xCE6E6B28#32 ⊥ rfl,
    letI : Cert.Pre_largest_is_a_number.Facts := preFacts
    equation⟩

end Cert.Proof

end
